-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![1, 1024, 1024]⟩ ⟨3, ![1, 8192, 1024]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![1, 1024, 8, 128]⟩ ⟨4, ![1, 8192, 8, 128]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 1024, 8, 128]⟩ ⟨4, ![1, 8192, 8, 128]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 1024, 1024]⟩ ⟨3, ![1, 8192, 1024]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v34) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x1024x1024 : Shape := ⟨3, ![1, 1024, 1024]⟩
abbrev S1024x1024 : Shape := ⟨2, ![1024, 1024]⟩
abbrev S1x1024x8x128 : Shape := ⟨4, ![1, 1024, 8, 128]⟩
abbrev S_ : Shape := ⟨0, ![]⟩

class Facts : Prop where
  bcast_S_S1x1024x1024 : S_.BroadcastsInDim S1x1024x1024 (![] : Fin 0 → Fin S1x1024x1024.rank)
  reducesTo_S1x1024x1024_S_d0_1_2 : S1x1024x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x1024x8x128 : S_.BroadcastsInDim S1x1024x8x128 (![] : Fin 0 → Fin S1x1024x8x128.rank)
  reducesTo_S1x1024x8x128_S_d0_1_2_3 : S1x1024x8x128.ReducesTo [0, 1, 2, 3] S_

variable [Facts]

def fn {F : FTy → Type} [FloatOps F] (main_arg0 : FVec F S1x1024x1024 .f32) (main_arg1 : FVec F S1024x1024 .f32) (main_arg2 : FVec F S1x1024x8x128 .f32) (main_arg3 : FVec F S1x1024x8x128 .f32) (main_arg4 : FVec F S1024x1024 .f32) : IVec S_ 1 :=
  let main_v0 : FVec F S1x1024x1024 .f32 := Host.absf main_arg0
  let main_cst : FVec F S_ .f32 := constant S_ .f32 0x7F800000#32
  let main_v1 : FVec F S1x1024x1024 .f32 := broadcastInDim S1x1024x1024 ![] bcast_S_S1x1024x1024 main_cst
  let main_v2 : IVec S1x1024x1024 1 := cmpf .olt main_v0 main_v1
  let main_c : IVec S_ 1 := constantI S_ 1 1#1
  let main_v3 : IVec S_ 1 := (fun x v => Host.reduce IntOp.andi x v reducesTo_S1x1024x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1x1024x8x128 .f32 := Host.absf main_arg2
  let main_cst_2 : FVec F S_ .f32 := constant S_ .f32 0x7F800000#32
  let main_v10 : FVec F S1x1024x8x128 .f32 := broadcastInDim S1x1024x8x128 ![] bcast_S_S1x1024x8x128 main_cst_2
  let main_v11 : IVec S1x1024x8x128 1 := cmpf .olt main_v9 main_v10
  let main_c_3 : IVec S_ 1 := constantI S_ 1 1#1
  let main_v12 : IVec S_ 1 := (fun x v => Host.reduce IntOp.andi x v reducesTo_S1x1024x8x128_S_d0_1_2_3 h_S_) main_v11 main_c_3
  let main_v13 : IVec S_ 1 := andi main_v8 main_v12
  main_v13
-- ==== Pre_finite_ReferenceIdeal.lean ====
abbrev S1x8192x1024 : Shape := ⟨3, ![1, 8192, 1024]⟩
abbrev S1024x1024 : Shape := ⟨2, ![1024, 1024]⟩
abbrev S1x8192x8x128 : Shape := ⟨4, ![1, 8192, 8, 128]⟩
abbrev S_ : Shape := ⟨0, ![]⟩

class Facts : Prop where
  bcast_S_S1x8192x1024 : S_.BroadcastsInDim S1x8192x1024 (![] : Fin 0 → Fin S1x8192x1024.rank)
  reducesTo_S1x8192x1024_S_d0_1_2 : S1x8192x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x8192x8x128 : S_.BroadcastsInDim S1x8192x8x128 (![] : Fin 0 → Fin S1x8192x8x128.rank)
  reducesTo_S1x8192x8x128_S_d0_1_2_3 : S1x8192x8x128.ReducesTo [0, 1, 2, 3] S_

variable [Facts]

def fn {F : FTy → Type} [FloatOps F] (main_arg0 : FVec F S1x8192x1024 .f32) (main_arg1 : FVec F S1024x1024 .f32) (main_arg2 : FVec F S1x8192x8x128 .f32) (main_arg3 : FVec F S1x8192x8x128 .f32) (main_arg4 : FVec F S1024x1024 .f32) : IVec S_ 1 :=
  let main_v0 : FVec F S1x8192x1024 .f32 := Host.absf main_arg0
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  let main_c : IVec S_ 1 := constantI S_ 1 1#1
  let main_v3 : IVec S_ 1 := (fun x v => Host.reduce IntOp.andi x v reducesTo_S1x8192x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1x8192x8x128 .f32 := Host.absf main_arg2
  let main_cst_2 : FVec F S_ .f32 := constant S_ .f32 0x7F800000#32
  let main_v10 : FVec F S1x8192x8x128 .f32 := broadcastInDim S1x8192x8x128 ![] bcast_S_S1x8192x8x128 main_cst_2
  let main_v11 : IVec S1x8192x8x128 1 := cmpf .olt main_v9 main_v10
  let main_c_3 : IVec S_ 1 := constantI S_ 1 1#1
  let main_v12 : IVec S_ 1 := (fun x v => Host.reduce IntOp.andi x v reducesTo_S1x8192x8x128_S_d0_1_2_3 h_S_) main_v11 main_c_3
  let main_v13 : IVec S_ 1 := andi main_v8 main_v12
  main_v13
-- ==== Kernel.lean ====
abbrev S1x1024x1024 : Shape := ⟨3, ![1, 1024, 1024]⟩
abbrev S1024x1024 : Shape := ⟨2, ![1024, 1024]⟩
abbrev S1x1024x8x128 : Shape := ⟨4, ![1, 1024, 8, 128]⟩
abbrev S1024x8x128 : Shape := ⟨3, ![1024, 8, 128]⟩
abbrev S128x8x128 : Shape := ⟨3, ![128, 8, 128]⟩
abbrev S128x1024 : Shape := ⟨2, ![128, 1024]⟩
abbrev S15 : Shape := ⟨1, ![15]⟩
abbrev S4 : Shape := ⟨1, ![4]⟩
abbrev S1 : Shape := ⟨1, ![1]⟩
abbrev S_ : Shape := ⟨0, ![]⟩
abbrev S1x128x8x128 : Shape := ⟨4, ![1, 128, 8, 128]⟩
abbrev S384x8x128 : Shape := ⟨3, ![384, 8, 128]⟩
abbrev S1x384x8x128 : Shape := ⟨4, ![1, 384, 8, 128]⟩
abbrev S256x8x128 : Shape := ⟨3, ![256, 8, 128]⟩
abbrev S1x256x8x128 : Shape := ⟨4, ![1, 256, 8, 128]⟩
abbrev S256x512 : Shape := ⟨2, ![256, 512]⟩
abbrev S512x8x128 : Shape := ⟨3, ![512, 8, 128]⟩
abbrev S512x1024 : Shape := ⟨2, ![512, 1024]⟩
abbrev S256x128 : Shape := ⟨2, ![256, 128]⟩
abbrev S512x128 : Shape := ⟨2, ![512, 128]⟩
abbrev S256 : Shape := ⟨1, ![256]⟩
abbrev S256x1 : Shape := ⟨2, ![256, 1]⟩
abbrev S256x1024 : Shape := ⟨2, ![256, 1024]⟩
abbrev S1x256x1024 : Shape := ⟨3, ![1, 256, 1024]⟩
abbrev S384x1024 : Shape := ⟨2, ![384, 1024]⟩

abbrev nBuf : Space → Nat
  | .hbm => 6
  | .vmem => 18
  | .smem => 0
  | _ => 0

abbrev bufTy : (tb : Table) → Fin (tcTables nBuf tb) → BufTy
  | .hbm, ⟨0, _⟩ => ⟨S1x1024x1024, .f32⟩
  | .hbm, ⟨1, _⟩ => ⟨S1024x1024, .f32⟩
  | .hbm, ⟨2, _⟩ => ⟨S1x1024x8x128, .f32⟩
  | .hbm, ⟨3, _⟩ => ⟨S1x1024x8x128, .f32⟩
  | .hbm, ⟨4, _⟩ => ⟨S1024x1024, .f32⟩
  | .hbm, ⟨5, _⟩ => ⟨S1x1024x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x8x128, .f32⟩
  | .local _ .vmem, ⟨4, _⟩ => ⟨S1024x8x128, .f32⟩
  | .local _ .vmem, ⟨5, _⟩ => ⟨S1024x1024, .f32⟩
  | .local _ .vmem, ⟨6, _⟩ => ⟨S128x8x128, .f32⟩
  | .local _ .vmem, ⟨7, _⟩ => ⟨S128x8x128, .f32⟩
  | .local _ .vmem, ⟨8, _⟩ => ⟨S128x8x128, .f32⟩
  | .local _ .vmem, ⟨9, _⟩ => ⟨S128x8x128, .f32⟩
  | .local _ .vmem, ⟨10, _⟩ => ⟨S128x1024, .bf16⟩
  | .local _ .vmem, ⟨11, _⟩ => ⟨S128x1024, .bf16⟩
  | .local _ .vmem, ⟨12, _⟩ => ⟨S128x1024, .bf16⟩
  | .local _ .vmem, ⟨13, _⟩ => ⟨S128x1024, .bf16⟩
  | .local _ .vmem, ⟨14, _⟩ => ⟨S128x1024, .bf16⟩
  | .local _ .vmem, ⟨15, _⟩ => ⟨S128x1024, .bf16⟩
  | .local _ .vmem, ⟨16, _⟩ => ⟨S128x1024, .bf16⟩
  | .local _ .vmem, ⟨17, _⟩ => ⟨S128x1024, .bf16⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 1 → Bool
  | ⟨0, _⟩ => false
  | _ => false

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  (ofTc nBuf bufTy 1 27 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch9 : Ref sig .tc := ⟨.vmem, 9, rfl⟩
abbrev cc0_scratch10 : Ref sig .tc := ⟨.vmem, 10, rfl⟩
abbrev cc0_scratch11 : Ref sig .tc := ⟨.vmem, 11, rfl⟩
abbrev cc0_scratch12 : Ref sig .tc := ⟨.vmem, 12, rfl⟩
abbrev cc0_scratch13 : Ref sig .tc := ⟨.vmem, 13, rfl⟩
abbrev cc0_scratch14 : Ref sig .tc := ⟨.vmem, 14, rfl⟩
abbrev cc0_scratch15 : Ref sig .tc := ⟨.vmem, 15, rfl⟩
abbrev cc0_scratch16 : Ref sig .tc := ⟨.vmem, 16, rfl⟩
abbrev cc0_scratch17 : Ref sig .tc := ⟨.vmem, 17, rfl⟩
abbrev barrier0 : Sem sig := 0

abbrev nD : Nat := 8
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v8 : BitVec 1 := Scalar.cmpi .sgt v2 c0_i32
  let v75 : BitVec 32 := Scalar.extui v8
  let c0_i32_81 : BitVec 32 := 0#32
  let v76 : BitVec 1 := Scalar.cmpi .ne v75 c0_i32_81
  v76

def k0_dev1 (d0 : Dev nD) : Nat :=
  let c0_i32_477 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_476 : BitVec 32 := 1#32
  let v827 : BitVec 32 := Scalar.muli v5 c1_i32_476
  let v828 : BitVec 32 := Scalar.addi c0_i32_477 v827
  v828.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v9 : BitVec 1 := Scalar.cmpi .slt v2 c7_i32
  let v77 : BitVec 32 := Scalar.extui v9
  let c0_i32_82 : BitVec 32 := 0#32
  let v78 : BitVec 1 := Scalar.cmpi .ne v77 c0_i32_82
  v78

def k0_dev2 (d0 : Dev nD) : Nat :=
  let c0_i32_477 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_476 : BitVec 32 := 1#32
  let v827 : BitVec 32 := Scalar.muli v7 c1_i32_476
  let v828 : BitVec 32 := Scalar.addi c0_i32_477 v827
  v828.toNat
def k0_amt1 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v8 : BitVec 1 := Scalar.cmpi .sgt v2 c0_i32
  let v79 : BitVec 32 := Scalar.extui v8
  let c7_i32 : BitVec 32 := 7#32
  let v9 : BitVec 1 := Scalar.cmpi .slt v2 c7_i32
  let v80 : BitVec 32 := Scalar.extui v9
  let v81 : BitVec 32 := Scalar.addi v79 v80
  v81

def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v8 : BitVec 1 := Scalar.cmpi .sgt v2 c0_i32
  let v122 : BitVec 32 := Scalar.extui v8
  let c0_i32_122 : BitVec 32 := 0#32
  let v123 : BitVec 1 := Scalar.cmpi .ne v122 c0_i32_122
  v123

def k0_dev3 (d0 : Dev nD) : Nat :=
  let c0_i32_478 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_477 : BitVec 32 := 1#32
  let v827 : BitVec 32 := Scalar.muli v5 c1_i32_477
  let v828 : BitVec 32 := Scalar.addi c0_i32_478 v827
  v828.toNat
def k0_dev4 (d0 : Dev nD) : Nat :=
  let c0_i32_482 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_481 : BitVec 32 := 1#32
  let v833 : BitVec 32 := Scalar.muli v5 c1_i32_481
  let v834 : BitVec 32 := Scalar.addi c0_i32_482 v833
  v834.toNat
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v9 : BitVec 1 := Scalar.cmpi .slt v2 c7_i32
  let v124 : BitVec 32 := Scalar.extui v9
  let c0_i32_123 : BitVec 32 := 0#32
  let v125 : BitVec 1 := Scalar.cmpi .ne v124 c0_i32_123
  v125

def k0_dev5 (d0 : Dev nD) : Nat :=
  let c0_i32_478 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_477 : BitVec 32 := 1#32
  let v827 : BitVec 32 := Scalar.muli v7 c1_i32_477
  let v828 : BitVec 32 := Scalar.addi c0_i32_478 v827
  v828.toNat
def k0_dev6 (d0 : Dev nD) : Nat :=
  let c0_i32_482 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_481 : BitVec 32 := 1#32
  let v833 : BitVec 32 := Scalar.muli v7 c1_i32_481
  let v834 : BitVec 32 := Scalar.addi c0_i32_482 v833
  v834.toNat
-- ==== ReferenceIdeal.lean ====
abbrev S1x8192x1024 : Shape := ⟨3, ![1, 8192, 1024]⟩
abbrev S1024x1024 : Shape := ⟨2, ![1024, 1024]⟩
abbrev S1x8192x8x128 : Shape := ⟨4, ![1, 8192, 8, 128]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S_ : Shape := ⟨0, ![]⟩
abbrev S1x8x8192x8192 : Shape := ⟨4, ![1, 8, 8192, 8192]⟩
abbrev S1x1x8192x8192 : Shape := ⟨4, ![1, 1, 8192, 8192]⟩
abbrev S1x8x8192 : Shape := ⟨3, ![1, 8, 8192]⟩
abbrev S1x8x8192x1 : Shape := ⟨4, ![1, 8, 8192, 1]⟩
abbrev S1x1x8192x1 : Shape := ⟨4, ![1, 1, 8192, 1]⟩
abbrev S1x8x128x8192 : Shape := ⟨4, ![1, 8, 128, 8192]⟩

abbrev nBuf : Space → Nat
  | .hbm => 57
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1024x1024, .f32⟩
  | .hbm, ⟨2, _⟩ => ⟨S1x8192x8x128, .f32⟩
  | .hbm, ⟨3, _⟩ => ⟨S1x8192x8x128, .f32⟩
  | .hbm, ⟨4, _⟩ => ⟨S1024x1024, .f32⟩
  | .hbm, ⟨5, _⟩ => ⟨S1x8192x1024, .f32⟩
  | .hbm, ⟨6, _⟩ => ⟨S1x8192x8x128, .f32⟩
  | .hbm, ⟨7, _⟩ => ⟨S8192, .i32⟩
  | .hbm, ⟨8, _⟩ => ⟨S8192x1, .i32⟩
  | .hbm, ⟨9, _⟩ => ⟨S8192, .i32⟩
  | .hbm, ⟨10, _⟩ => ⟨S1x8192, .i32⟩
  | .hbm, ⟨11, _⟩ => ⟨S8192x8192, .i32⟩
  | .hbm, ⟨12, _⟩ => ⟨S8192x8192, .i32⟩
  | .hbm, ⟨13, _⟩ => ⟨S8192x8192, .i32⟩
  | .hbm, ⟨14, _⟩ => ⟨S8192x8192, .i32⟩
  | .hbm, ⟨15, _⟩ => ⟨S_, .i32⟩
  | .hbm, ⟨16, _⟩ => ⟨S8192x8192, .i32⟩
  | .hbm, ⟨17, _⟩ => ⟨S8192x8192, .i1⟩
  | .hbm, ⟨18, _⟩ => ⟨S1x8x8192x8192, .f32⟩
  | .hbm, ⟨19, _⟩ => ⟨S_, .f32⟩
  | .hbm, ⟨20, _⟩ => ⟨S1x8x8192x8192, .f32⟩
  | .hbm, ⟨21, _⟩ => ⟨S1x8x8192x8192, .f32⟩
  | .hbm, ⟨22, _⟩ => ⟨S1x1x8192x8192, .i1⟩
  | .hbm, ⟨23, _⟩ => ⟨S_, .f32⟩
  | .hbm, ⟨24, _⟩ => ⟨S_, .f32⟩
  | .hbm, ⟨25, _⟩ => ⟨S1x8x8192x8192, .i1⟩
  | .hbm, ⟨26, _⟩ => ⟨S1x8x8192x8192, .f32⟩
  | .hbm, ⟨27, _⟩ => ⟨S1x8x8192x8192, .f32⟩
  | .hbm, ⟨28, _⟩ => ⟨S_, .f32⟩
  | .hbm, ⟨29, _⟩ => ⟨S1x8x8192, .f32⟩
  | .hbm, ⟨30, _⟩ => ⟨S1x8x8192x1, .f32⟩
  | .hbm, ⟨31, _⟩ => ⟨S1x8x8192x8192, .f32⟩
  | .hbm, ⟨32, _⟩ => ⟨S1x8x8192x8192, .f32⟩
  | .hbm, ⟨33, _⟩ => ⟨S1x8x8192x8192, .f32⟩
  | .hbm, ⟨34, _⟩ => ⟨S_, .i1⟩
  | .hbm, ⟨35, _⟩ => ⟨S8192, .i1⟩
  | .hbm, ⟨36, _⟩ => ⟨S1x1x8192x1, .i1⟩
  | .hbm, ⟨37, _⟩ => ⟨S_, .f32⟩
  | .hbm, ⟨38, _⟩ => ⟨S1x8x8192, .f32⟩
  | .hbm, ⟨39, _⟩ => ⟨S1x8x8192x1, .f32⟩
  | .hbm, ⟨40, _⟩ => ⟨S_, .f32⟩
  | .hbm, ⟨41, _⟩ => ⟨S_, .f32⟩
  | .hbm, ⟨42, _⟩ => ⟨S1x8x8192x1, .i1⟩
  | .hbm, ⟨43, _⟩ => ⟨S1x8x8192x1, .f32⟩
  | .hbm, ⟨44, _⟩ => ⟨S1x8x8192x1, .f32⟩
  | .hbm, ⟨45, _⟩ => ⟨S1x8x8192x8192, .f32⟩
  | .hbm, ⟨46, _⟩ => ⟨S1x8x8192x8192, .f32⟩
  | .hbm, ⟨47, _⟩ => ⟨S1x1x8192x1, .i1⟩
  | .hbm, ⟨48, _⟩ => ⟨S_, .f32⟩
  | .hbm, ⟨49, _⟩ => ⟨S_, .f32⟩
  | .hbm, ⟨50, _⟩ => ⟨S1x8x8192x8192, .i1⟩
  | .hbm, ⟨51, _⟩ => ⟨S1x8x8192x8192, .f32⟩
  | .hbm, ⟨52, _⟩ => ⟨S1x8x8192x8192, .f32⟩
  | .hbm, ⟨53, _⟩ => ⟨S1x8x128x8192, .f32⟩
  | .hbm, ⟨54, _⟩ => ⟨S1x8192x8x128, .f32⟩
  | .hbm, ⟨55, _⟩ => ⟨S1x8192x1024, .f32⟩
  | .hbm, ⟨56, _⟩ => ⟨S1x8192x1024, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_2 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩

abbrev nD : Nat := 1
abbrev τ : Topo := Topo.v7x

variable {F : FTy → Type} [FloatOps F]
-- ==== Proof.Schedule.lean ====
/-
The protocol between neighbouring devices: the cells, what each round of a cell hands over, and what each device
owes at launch.

The eight devices stand in a row. A device with a left neighbour sends it the first 128 rows of its K and V blocks
(rounded to bf16), one with a right neighbour sends that one its last 128 rows. Before a device sends, the receiver
has told it, by a unit on the barrier semaphore, that its landing buffers are free.

* Barrier cell of device `c`: duty `false`, paid by the left neighbour, hands over that neighbour's two landing
  buffers for what comes from its right; duty `true`, paid by the right neighbour, hands over that neighbour's two
  landing buffers for what comes from its left. A duty is there if the neighbour is.
* Receive cell `j` of device `c`: one duty, paid by the arriving transfer, which hands over the landing buffer with
  the neighbour's rows. `j = 0, 2` are K and V rows from the right, `j = 1, 3` from the left.
* Send cell `j` of device `c`: one duty, paid when the transfer has left, which hands the source buffer back.
  `j = 0, 2` go to the left, `j = 1, 3` to the right.

Names: `nxt` and `prv` are the neighbours around the ring of eight, `hasL` and `hasR` say which of them exist.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The ghost state of the neighbour protocol, beside it the counters of local transfers, and with them that of the launch library. -/
abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR

variable (m : (ℓ : Loc nD τ sig) → Buf (Elt F) ℓ) (ρ : Dev nD → PrngReg)

/-- The memory at launch. -/
def s₀ : MemSt nD τ sig (Elt F) := ⟨m, fun _ => 0, ρ⟩

/-! ## The row of devices -/

set_option backward.proofsInPublic true in
def nxt (c : Dev nD) : Dev nD := ⟨(c.val + 1) % 8, Nat.mod_lt _ (by decide)⟩
set_option backward.proofsInPublic true in
def prv (c : Dev nD) : Dev nD := ⟨(c.val + 7) % 8, Nat.mod_lt _ (by decide)⟩

theorem prv_nxt (c : Dev nD) : prv (nxt c) = c := by revert c; decide
theorem nxt_prv (c : Dev nD) : nxt (prv c) = c := by revert c; decide

def ring : Dev nD ≃ Dev nD := ⟨nxt, prv, prv_nxt, nxt_prv⟩

/-- There is a left neighbour. -/
def hasL (c : Dev nD) : Prop := 0 < c.val
/-- There is a right neighbour. -/
def hasR (c : Dev nD) : Prop := c.val < 7
instance (c : Dev nD) : Decidable (hasL c) := by unfold hasL; infer_instance
instance (c : Dev nD) : Decidable (hasR c) := by unfold hasR; infer_instance

theorem hasL_nxt (c : Dev nD) : hasL (nxt c) ↔ hasR c := by revert c; decide
theorem hasR_prv (c : Dev nD) : hasR (prv c) ↔ hasL c := by revert c; decide

theorem dev1_eq (c : Dev nD) (h) : (⟨k0_dev1 c, k0_dev1_lt c h⟩ : Dev nD) = prv c := by revert c; decide
theorem dev2_eq (c : Dev nD) (h) : (⟨k0_dev2 c, k0_dev2_lt c h⟩ : Dev nD) = nxt c := by revert c; decide
theorem dev3_eq (c : Dev nD) (h) : (⟨k0_dev3 c, k0_dev3_lt c h⟩ : Dev nD) = prv c := by revert c; decide
theorem dev4_eq (c : Dev nD) (h) : (⟨k0_dev4 c, k0_dev4_lt c h⟩ : Dev nD) = prv c := by revert c; decide
theorem dev5_eq (c : Dev nD) (h) : (⟨k0_dev5 c, k0_dev5_lt c h⟩ : Dev nD) = nxt c := by revert c; decide
theorem dev6_eq (c : Dev nD) (h) : (⟨k0_dev6 c, k0_dev6_lt c h⟩ : Dev nD) = nxt c := by revert c; decide

theorem cond1_iff (c : Dev nD) : k0_cond1 c = 1#1 ↔ hasL c := by revert c; decide
theorem cond2_iff (c : Dev nD) : k0_cond2 c = 1#1 ↔ hasR c := by revert c; decide
theorem cond3_iff (c : Dev nD) : k0_cond3 c = 1#1 ↔ hasL c := by revert c; decide
theorem cond4_iff (c : Dev nD) : k0_cond4 c = 1#1 ↔ hasR c := by revert c; decide

/-- How many neighbours there are. -/
def nb (c : Dev nD) : ℕ := (if hasL c then 1 else 0) + (if hasR c then 1 else 0)
theorem amt1_eq (c : Dev nD) : (k0_amt1 c).toNat = nb c := by revert c; decide

/-! ## Cells and buffers -/

abbrev barS : Sem sig := (SemArray.scalar (sig.barrier 0 rfl) : Sems sig S_).sem
set_option backward.proofsInPublic true in
/-- The send semaphores: pool numbers 19 to 22. -/
abbrev sendS (j : Fin 4) : DmaSem sig := (⟨19 + j.val, by omega⟩ : Fin 27)
set_option backward.proofsInPublic true in
/-- The receive semaphores: pool numbers 23 to 26. -/
abbrev recvS (j : Fin 4) : DmaSem sig := (⟨23 + j.val, by omega⟩ : Fin 27)

abbrev barCell (c : Dev nD) : GSem nD τ sig := ((c : Thread nD τ), .reg barS)
abbrev sendCell (j : Fin 4) (c : Dev nD) : GSem nD τ sig := ((c : Thread nD τ), .dma (sendS j))
abbrev recvCell (j : Fin 4) (c : Dev nD) : GSem nD τ sig := ((c : Thread nD τ), .dma (recvS j))

/-- A halo buffer: 128 rows of bf16. -/
abbrev hM (b : Ref sig .tc) := Memref.whole b
/-- The units a halo transfer counts for. -/
abbrev N : ℕ := (Memref.whole cc0_scratch14 : Memref sig .tc .vmem S128x1024 .bf16).view.dmaCredit
theorem N_pos : 0 < N := View.dmaCredit_pos _ (by decide)

/-- A buffer of device `c`, whole, holding `f`. -/
abbrev held (c : Dev nD) (b : Ref sig .tc) (f : Buf (Elt F) ((c : Thread nD τ).loc b)) : sProp 𝕄 :=
  iprop(((Memref.whole b).view.loc (c : Thread nD τ)) ↦{fullShare} f)

/-! ## What is sent -/

/-- The first 128 rows of a block of K or V, and the last. -/
abbrev headV (b : Memref sig .tc .hbm S1x1024x8x128 .f32) : Memref sig .tc .hbm S128x8x128 .f32 :=
  (b.slice (Rect.unit (s := S1x1024x8x128) ![0, 0, 0, 0] S1x128x8x128.size inb_S1x1024x8x128_S1x128x8x128_0_0_0_0) (fun _ => rfl)).squeeze
    S128x8x128 squeezes_S1x128x8x128_S128x8x128
abbrev tailV (b : Memref sig .tc .hbm S1x1024x8x128 .f32) : Memref sig .tc .hbm S128x8x128 .f32 :=
  (b.slice (Rect.unit (s := S1x1024x8x128) ![0, 896, 0, 0] S1x128x8x128.size inb_S1x1024x8x128_S1x128x8x128_0_896_0_0) (fun _ => rfl)).squeeze
    S128x8x128 squeezes_S1x128x8x128_S128x8x128

def kHead (c : Dev nD) : Vec F S128x8x128 .f32 := (headV (Memref.whole main_arg2)).view.read (Elt F) (m ((c : Thread nD τ).loc main_arg2))
def kTail (c : Dev nD) : Vec F S128x8x128 .f32 := (tailV (Memref.whole main_arg2)).view.read (Elt F) (m ((c : Thread nD τ).loc main_arg2))
def vHead (c : Dev nD) : Vec F S128x8x128 .f32 := (headV (Memref.whole main_arg3)).view.read (Elt F) (m ((c : Thread nD τ).loc main_arg3))
def vTail (c : Dev nD) : Vec F S128x8x128 .f32 := (tailV (Memref.whole main_arg3)).view.read (Elt F) (m ((c : Thread nD τ).loc main_arg3))

/-- What device `c` sends on transfer `j`. -/
def sent0 (c : Dev nD) : FVec F S128x1024 .bf16 := k0_pay1 (kHead m c)
def sent1 (c : Dev nD) : FVec F S128x1024 .bf16 := k0_pay4 (kTail m c)
def sent2 (c : Dev nD) : FVec F S128x1024 .bf16 := k0_pay3 (k0_pay2 (vHead m c))
def sent3 (c : Dev nD) : FVec F S128x1024 .bf16 := k0_pay5 (vTail m c)

/-! ## The schedule -/

def barPayL (c : Dev nD) : sProp 𝕄 := iprop((∃ f, held (prv c) cc0_scratch15 f) ∗ ∃ f, held (prv c) cc0_scratch17 f)
def barPayR (c : Dev nD) : sProp 𝕄 := iprop((∃ f, held (nxt c) cc0_scratch14 f) ∗ ∃ f, held (nxt c) cc0_scratch16 f)

def sendPay (c : Dev nD) : Fin 4 → sProp 𝕄 := fun
  | 0 => held c cc0_scratch10 (sent0 m c) | 1 => held c cc0_scratch11 (sent1 m c)
  | 2 => held c cc0_scratch12 (sent2 m c) | 3 => held c cc0_scratch13 (sent3 m c)
def recvPay (c : Dev nD) : Fin 4 → sProp 𝕄 := fun
  | 0 => held c cc0_scratch15 (sent0 m (nxt c)) | 1 => held c cc0_scratch14 (sent1 m (prv c))
  | 2 => held c cc0_scratch17 (sent2 m (nxt c)) | 3 => held c cc0_scratch16 (sent3 m (prv c))

/-- Whether device `c` sends on transfer `j`: to the left for even `j`, to the right for odd. -/
def sends (c : Dev nD) (j : Fin 4) : Prop := if j.val % 2 = 0 then hasL c else hasR c
/-- Whether device `c` receives on transfer `j`: from the right for even `j`, from the left for odd. -/
def recvs (c : Dev nD) (j : Fin 4) : Prop := if j.val % 2 = 0 then hasR c else hasL c
instance (c : Dev nD) (j : Fin 4) : Decidable (sends c j) := by unfold sends; infer_instance
instance (c : Dev nD) (j : Fin 4) : Decidable (recvs c j) := by unfold recvs; infer_instance

/-- Which of the protocol's cells a semaphore is: 0 the barrier, `1 + j` a send cell, `5 + j` a receive cell. -/
abbrev csem : Fin 9 → SemLoc sig := fun
  | 0 => .reg barS | 1 => .dma (sendS 0) | 2 => .dma (sendS 1) | 3 => .dma (sendS 2) | 4 => .dma (sendS 3)
  | 5 => .dma (recvS 0) | 6 => .dma (recvS 1) | 7 => .dma (recvS 2) | 8 => .dma (recvS 3)

theorem csem_injective : Function.Injective csem := by decide

/-- The duties of device `c`'s cell `k`. -/
def dutiesAt (c : Dev nD) : Fin 9 → Finset Bool := fun
  | 0 => Finset.univ.filter fun d => if d then hasR c else hasL c
  | 1 => if sends c 0 then {false} else ∅ | 2 => if sends c 1 then {false} else ∅
  | 3 => if sends c 2 then {false} else ∅ | 4 => if sends c 3 then {false} else ∅
  | 5 => if recvs c 0 then {false} else ∅ | 6 => if recvs c 1 then {false} else ∅
  | 7 => if recvs c 2 then {false} else ∅ | 8 => if recvs c 3 then {false} else ∅

def payloadAt (c : Dev nD) : Fin 9 → Bool → sProp 𝕄 := fun
  | 0, d => if d then barPayR c else barPayL c
  | 1, _ => sendPay m c 0 | 2, _ => sendPay m c 1 | 3, _ => sendPay m c 2 | 4, _ => sendPay m c 3
  | 5, _ => recvPay m c 0 | 6, _ => recvPay m c 1 | 7, _ => recvPay m c 2 | 8, _ => recvPay m c 3

instance payloadAt_storable (c : Dev nD) (k : Fin 9) (d : Bool) : BI.Storable (upEmb : UEmb _ 𝕄) (payloadAt m c k d) := by
  fin_cases k <;> cases d <;> simp only [payloadAt, barPayR, barPayL, sendPay, recvPay, if_true, if_false, Bool.false_eq_true] <;> infer_instance

/-- The protocol's cell that semaphore `s` is, if any. -/
def cellNo (s : SemLoc sig) : Option (Fin 9) := (List.finRange 9).find? fun k => decide (csem k = s)

theorem cellNo_csem : ∀ k, cellNo (csem k) = some k := by decide

def rd : Rounds.Schedule (GSem nD τ sig) Bool 𝕄 where
  duties g r := if r = 0 ∧ g.1.2 = .tc then (cellNo g.2).elim ∅ (dutiesAt g.1.1) else ∅
  unitless _ := False
  amount g _ _ := if g.2 = .reg barS then 1 else N
  payload g _ d := (cellNo g.2).elim iprop(emp) fun k => payloadAt m g.1.1 k d
  amount_pos g _ _ _ := by
    by_cases h : g.2 = .reg barS
    · rw [if_pos h]; exact Nat.one_pos
    · rw [if_neg h]; exact N_pos

instance rd_payload_storable (g : GSem nD τ sig) (r : ℕ) (d : Bool) : BI.Storable (upEmb : UEmb _ 𝕄) ((rd (F := F) m).payload g r d) := by
  show BI.Storable upEmb ((cellNo g.2).elim iprop(emp) fun k => payloadAt m g.1.1 k d)
  cases cellNo g.2 with
  | none => exact (inferInstance : BI.Storable upEmb (iprop(emp) : sProp 𝕄))
  | some k => exact payloadAt_storable m g.1.1 k d

/-- Device `c`'s cell `k`. -/
abbrev kcell (ck : Dev nD × Fin 9) : GSem nD τ sig := ((ck.1 : Thread nD τ), csem ck.2)

section Sched
variable (c : Dev nD)

theorem duties_kcell (k : Fin 9) : (rd (F := F) m).duties (kcell (c, k)) 0 = dutiesAt c k := by
  dsimp only [rd]; rw [if_pos ⟨rfl, rfl⟩]; show (cellNo (csem k)).elim ∅ (dutiesAt c) = _; rw [cellNo_csem]; rfl

theorem payload_kcell (k : Fin 9) (d : Bool) : (rd (F := F) m).payload (kcell (c, k)) 0 d = payloadAt m c k d := by
  dsimp only [rd]; show (cellNo (csem k)).elim iprop(emp) (fun k => payloadAt m c k d) = _; rw [cellNo_csem]; rfl

theorem duties_later (g : GSem nD τ sig) : ∀ r, 1 ≤ r → (rd (F := F) m).duties g r = ∅ :=
  fun r hr => by dsimp only [rd]; rw [if_neg fun h => by omega]

/-- A cell without duties has none in any round. -/
theorem duties_none (k : Fin 9) (h : dutiesAt c k = ∅) : ∀ r, 0 ≤ r → (rd (F := F) m).duties (kcell (c, k)) r = ∅ := by
  intro r _
  rcases Nat.eq_zero_or_pos r with rfl | hr
  · rw [duties_kcell, h]
  · exact duties_later m _ r hr

theorem amount_bar (d : Bool) : (rd (F := F) m).amount (barCell c) 0 d = 1 := by dsimp only [rd]; exact if_pos rfl
theorem amount_send (j : Fin 4) (d : Bool) : (rd (F := F) m).amount (sendCell j c) 0 d = N := by
  dsimp only [rd]; exact if_neg fun h => by cases h
theorem amount_recv (j : Fin 4) (d : Bool) : (rd (F := F) m).amount (recvCell j c) 0 d = N := by
  dsimp only [rd]; exact if_neg fun h => by cases h

theorem csem_send (j : Fin 4) : csem (⟨1 + j.val, by omega⟩ : Fin 9) = .dma (sendS j) := by revert j; decide
theorem csem_recv (j : Fin 4) : csem (⟨5 + j.val, by omega⟩ : Fin 9) = .dma (recvS j) := by revert j; decide

theorem duties_send (j : Fin 4) : (rd (F := F) m).duties (sendCell j c) 0 = if sends c j then {false} else ∅ := by
  have := duties_kcell (F := F) m c (⟨1 + j.val, by omega⟩ : Fin 9)
  fin_cases j <;> exact this
theorem duties_recv (j : Fin 4) : (rd (F := F) m).duties (recvCell j c) 0 = if recvs c j then {false} else ∅ := by
  have := duties_kcell (F := F) m c (⟨5 + j.val, by omega⟩ : Fin 9)
  fin_cases j <;> exact this
theorem duties_bar : (rd (F := F) m).duties (barCell c) 0 = Finset.univ.filter fun d => if d then hasR c else hasL c :=
  duties_kcell (F := F) m c 0
theorem payload_send (j : Fin 4) (d : Bool) : (rd (F := F) m).payload (sendCell j c) 0 d = sendPay m c j := by
  have := payload_kcell (F := F) m c (⟨1 + j.val, by omega⟩ : Fin 9) d
  fin_cases j <;> exact this
theorem payload_recv (j : Fin 4) (d : Bool) : (rd (F := F) m).payload (recvCell j c) 0 d = recvPay m c j := by
  have := payload_kcell (F := F) m c (⟨5 + j.val, by omega⟩ : Fin 9) d
  fin_cases j <;> exact this
theorem payload_bar (d : Bool) : (rd (F := F) m).payload (barCell c) 0 d = if d then barPayR c else barPayL c :=
  payload_kcell (F := F) m c 0 d

theorem expect_bar : (rd (F := F) m).expect (barCell c) 0 = nb c := by
  unfold Schedule.expect Schedule.amountOf
  rw [Finset.sum_congr rfl fun d _ => amount_bar m c d, Finset.sum_const, smul_eq_mul, mul_one, duties_bar]
  revert c; decide
theorem expect_send (j : Fin 4) : (rd (F := F) m).expect (sendCell j c) 0 = if sends c j then N else 0 := by
  unfold Schedule.expect Schedule.amountOf
  rw [Finset.sum_congr rfl fun d _ => amount_send m c j d, duties_send]; split <;> simp
theorem expect_recv (j : Fin 4) : (rd (F := F) m).expect (recvCell j c) 0 = if recvs c j then N else 0 := by
  unfold Schedule.expect Schedule.amountOf
  rw [Finset.sum_congr rfl fun d _ => amount_recv m c j d, duties_recv]; split <;> simp

/-- What the barrier wait brings in from the left and from the right. -/
def gotL (c : Dev nD) : sProp 𝕄 := if hasL c then barPayL c else iprop(emp)
def gotR (c : Dev nD) : sProp 𝕄 := if hasR c then barPayR c else iprop(emp)

theorem rest_bar : bigSep ((rd (F := F) m).duties (barCell c) 0 \ ∅) (fun d => (rd (F := F) m).payload (barCell c) 0 d) ⊢ iprop(gotL c ∗ gotR c) := by
  rw [Finset.sdiff_empty, duties_bar, bigSep_congr fun d _ => payload_bar m c d]
  unfold gotL gotR
  by_cases hl : hasL c <;> by_cases hr : hasR c <;> simp only [hl, hr, if_true, if_false]
  · rw [show (Finset.univ.filter fun d : Bool => if d = true then True else True) = ({false, true} : Finset Bool) by decide,
      bigSep_eq_bigSepL_of_eq [false, true] (by decide) (by decide), bigSepL_cons_cons, bigSepL_singleton]
    simp only [Bool.false_eq_true, if_true, if_false]; exact BI.Entails.refl _
  · rw [show (Finset.univ.filter fun d : Bool => if d = true then False else True) = ({false} : Finset Bool) by decide, bigSep_singleton]
    simp only [Bool.false_eq_true, if_false]; iintro H; isplitl [H]; · iexact H
    iempintro
  · rw [show (Finset.univ.filter fun d : Bool => if d = true then True else False) = ({true} : Finset Bool) by decide, bigSep_singleton]
    simp only [if_true]; iintro H; isplitr; · iempintro
    iexact H
  · iintro -; isplitr <;> iempintro

theorem rest_send (j : Fin 4) (h : sends c j) :
    bigSep ((rd (F := F) m).duties (sendCell j c) 0 \ ∅) (fun d => (rd (F := F) m).payload (sendCell j c) 0 d) = sendPay m c j := by
  rw [Finset.sdiff_empty, duties_send, if_pos h, bigSep_singleton, payload_send]
theorem rest_recv (j : Fin 4) (h : recvs c j) :
    bigSep ((rd (F := F) m).duties (recvCell j c) 0 \ ∅) (fun d => (rd (F := F) m).payload (recvCell j c) 0 d) = recvPay m c j := by
  rw [Finset.sdiff_empty, duties_recv, if_pos h, bigSep_singleton, payload_recv]

end Sched

/-! ## What a device owes; the levels -/

abbrev Ow := CellTallies nD τ sig Unit

/-- Units owed to the left neighbour's barrier cell, to the right one's, to the left one's receive cells, to the right one's. -/
def owSigL (c : Dev nD) : Ow := if hasL c then tallyAt (barCell (prv c)) () 1 else 0
def owSigR (c : Dev nD) : Ow := if hasR c then tallyAt (barCell (nxt c)) () 1 else 0
def owSendL (c : Dev nD) : Ow := if hasL c then tallyAt (recvCell 2 (prv c)) () N + tallyAt (recvCell 0 (prv c)) () N else 0
def owSendR (c : Dev nD) : Ow := if hasR c then tallyAt (recvCell 3 (nxt c)) () N + tallyAt (recvCell 1 (nxt c)) () N else 0

/-- After the two signals, and at launch. -/
def O₁ (c : Dev nD) : Ow := owSendR c + owSendL c
def O₀ (c : Dev nD) : Ow := O₁ c + owSigR c + owSigL c

def L (g : GSem nD τ sig) : Finset Unit := if g.1.2 = .tc then {()} else ∅
/-- Barrier cells at 1, receive cells at 2, everything else at 0. -/
def lv (g : GSem nD τ sig) (_ : Unit) : ℕ := match g.2 with
  | .reg s => if s = barS then 1 else 0
  | .dma q => if 23 ≤ (show Fin 27 from q).val then 2 else 0

theorem L_of_ne (g : GSem nD τ sig) (h : g.1.2 ≠ .tc) : L g = ∅ := if_neg h
theorem L_tc (c : Dev nD) (sm : SemLoc sig) : L ((c : Thread nD τ), sm) = {()} := if_pos rfl

theorem O₁_pos {c : Dev nD} {g : GSem nD τ sig} {u : Unit} (h : 0 < O₁ c g u) : ∃ (j : Fin 4) (d : Dev nD), g = recvCell j d := by
  by_contra hn
  have hz (j : Fin 4) (d : Dev nD) : (tallyAt (recvCell j d) () N : Ow) g u = 0 := by
    rw [tallyAt_apply, if_neg fun h' => hn ⟨j, d, h'.1⟩]
  have hl : owSendL c g u = 0 := by
    unfold owSendL; split
    · rw [Pi.add_apply, Finsupp.add_apply, hz, hz]
    · rfl
  have hr : owSendR c g u = 0 := by
    unfold owSendR; split
    · rw [Pi.add_apply, Finsupp.add_apply, hz, hz]
    · rfl
  unfold O₁ at h; rw [Pi.add_apply, Finsupp.add_apply, hl, hr] at h; exact Nat.lt_irrefl 0 h

/-- What a device owes at the barrier wait and at the waits before its sends is above the cells it then waits on. -/
theorem mayWait_low (c : Dev nD) (sm : SemLoc sig) (hs : lv ((c : Thread nD τ), sm) () ≤ 1) :
    (levAts L lv : sProp 𝕄) ⊢ MayWait (c : Thread nD τ) sm () (O₁ c) :=
  MayOwe.of_cut (L := L) (lev := lv) 1 (fun p hp => by rw [Finset.mem_singleton.mp hp, L_tc]; exact Finset.mem_singleton_self _)
    (fun g u hg => by obtain ⟨j, d, rfl⟩ := O₁_pos hg; rw [L_tc]; exact Finset.mem_singleton_self _)
    (fun p hp => by rw [Finset.mem_singleton.mp hp]; exact hs)
    (fun g u hg => by
      obtain ⟨j, d, rfl⟩ := O₁_pos hg
      show 1 < (if 23 ≤ (show Fin 27 from recvS j).val then 2 else 0)
      rw [if_pos (show 23 ≤ 23 + j.val by omega)]; decide)

end Cert.Halo

end
-- ==== Proof.Guards.lean ====
module

public import proofs.«01_k».proof.Proof.Schedule

@[expose] public section

noncomputable section

namespace Cert.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (K : Dev nD × Fin 9 → ℕ)

abbrev 𝒱₀ : Variants := Variants.none

/-- Buffers with equal contents. -/
theorem pts_congr {ℓ : Loc nD τ sig} {q : PosShare TreeShare} {f g : Buf (Elt F) ℓ} (h : f = g) : ((ℓ ↦{q} f : sProp 𝕄)) ⊢ (ℓ ↦{q} g) := by
  rw [h]

theorem zeros₂ : (![0, 0] : Fin 2 → ℕ) = fun _ => 0 := by funext i; fin_cases i <;> rfl

/-- A buffer written whole holds what was written. -/
theorem whole_writes (b : Ref sig .tc) {off : Fin b.ty.shape.rank → ℕ} (h : off = fun _ => 0)
    (inb : ∀ a, off a + b.ty.shape.size a ≤ b.ty.shape.size a) (f w : b.ty.Contents (Elt F)) :
    (Memref.whole b).view.writes (Elt F) f [⟨Rect.unit off b.ty.shape.size inb, w⟩] = w :=
  Memref.write_access_unit_zero_univ (Elt F) b h inb f w

variable {α : Type} {c : Dev nD} {X : Ow} {W : Waits sig Unit}

/-! ## Guarded steps, for any condition -/

/-- A signal to `n₀` under a condition `C`, as one step: the duty `d` of `n₀`'s barrier cell is paid with `R` if it is there. -/
theorem guard_signal {P C : Prop} [Decidable P] [Decidable C] (hC : C ↔ P) {n₀ : Dev nD} {n : C → Dev nD} (hn : ∀ h, n h = n₀) (d : Bool)
    {R : sProp 𝕄} (hd : P → d ∈ (rd (F := F) m).duties (barCell n₀) 0) (hp : P → R ⊢ (rd m).payload (barCell n₀) 0 d)
    (hrt : τ.routes (c : Thread nD τ) (n₀ : Thread nD τ) = true)
    {s : Sem sig} (hs : s = barS) {κ : ℕ} {k : Prog (TpuEff nD τ sig (Elt F) Λ₀ .tc) α} {Q : α → sProp 𝕄} :
    iprop(cellInv ER (rd m) κ (barCell n₀) ∗ dutyTok ER (barCell n₀) 0 d ∗ reached ER (barCell n₀) 0 ∗ R
        ∗ owes (c : Thread nD τ) (X + if P then tallyAt (barCell n₀) () 1 else 0) W)
      ⊢ iprop(((owes (c : Thread nD τ) X W ∗ if P then iprop(emp) else R)
            -∗ wp frame (wpE (defs₀ (F := F)) 𝒱₀ (c : Thread nD τ) none) Set.univ k Q)
          -∗ wp frame (wpE (defs₀ (F := F)) 𝒱₀ (c : Thread nD τ) none) Set.univ
              (if h : C then (semSignalWord (n h) s 1#32 >>= fun _ => k) else k) Q) := by
  subst hs
  by_cases h : C
  · have hP := hC.1 h
    have hd := hd hP
    have ha := amount_bar (F := F) m n₀ d
    simp only [dif_pos h, if_pos hP, hn]
    unfold semSignalWord
    rw [show (1#32 : BitVec 32).toInt = ((1 : ℕ) : ℤ) from by decide]
    iintro ⟨HI, Ht, Hr, HR, HO⟩ Hk
    iapply (Rounds.wp_signal 𝒱₀ ER (rd m) (c : Thread nD τ) none (dst := (n₀ : Thread nD τ)) (κ := κ) (d := d) hd ha () X rfl (hr := hrt))
      $$ [HI HO Ht HR Hr]
    · isplitl [HI]; · iexact HI
      isplitl [HO]; · iexact HO
      isplitl [Ht]; · iexact Ht
      isplitl [HR]; · iapply (hp hP); iexact HR
      iexact Hr
    iintro HO
    iapply Hk
    isplitl [HO]; · iexact HO
    iempintro
  · have hP : ¬ P := fun hP => h (hC.2 hP)
    simp only [dif_neg h, if_neg hP, add_zero]
    iintro ⟨-, -, -, HR, HO⟩ Hk
    iapply Hk
    isplitl [HO]; · iexact HO
    iexact HR

/-- A halo transfer `j` to device `n`. -/
theorem send_halo {n : Dev nD} (j : Fin 4) (hs : sends c j) (hr : recvs n j) (hrt : τ.routes (c : Thread nD τ) (n : Thread nD τ) = true)
    {src dst : Memref sig .tc .vmem S128x1024 .bf16} {fs : Buf (Elt F) (src.view.loc (c : Thread nD τ))} {fd : Buf (Elt F) (dst.view.loc (n : Thread nD τ))}
    (hN : dst.view.dmaCredit = N)
    (hp₁ : (src.view.loc (c : Thread nD τ) ↦[src.view.set]{fullShare} fs) ⊢ sendPay m c j)
    (hp₂ : (dst.view.loc (n : Thread nD τ) ↦[dst.view.set]{fullShare} (dst.view.write (Elt F) fd (src.view.read (Elt F) fs) Finset.univ)) ⊢ recvPay m n j)
    {s₁ s₂ : DmaSem sig} (hs₁ : s₁ = sendS j) (hs₂ : s₂ = recvS j)
    {hsc : dst.view.ref.isScScratch = false} {hsrc : src.view.WordExact} {hdst : dst.view.WordExact}
    {hsem : DmaTarget.Typed .vmem (.dma s₂) (.remote (n : Thread nD τ) dst (.dma s₁) hsc)}
    {κ₁ κ₂ : ℕ} {k : PUnit → Prog (TpuEff nD τ sig (Elt F) Λ₀ .tc) α} {Q : α → sProp 𝕄} :
    iprop(cellInv ER (rd m) κ₁ (sendCell j c) ∗ cellInv ER (rd m) κ₂ (recvCell j n)
        ∗ (src.view.loc (c : Thread nD τ) ↦[src.view.set]{fullShare} fs) ∗ (dst.view.loc (n : Thread nD τ) ↦[dst.view.set]{fullShare} fd)
        ∗ owes (c : Thread nD τ) (X + tallyAt (recvCell j n) () N) W
        ∗ dutyTok ER (sendCell j c) 0 false ∗ reached ER (sendCell j c) 0
        ∗ dutyTok ER (recvCell j n) 0 false ∗ reached ER (recvCell j n) 0)
      ⊢ iprop(((cred (tallyAt (sendCell j c) () N) ∗ owes (c : Thread nD τ) X W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (n : Thread nD τ) dst (.dma s₁) hsc) (.dma s₂) hsrc hdst hsem) k) Q) := by
  subst hs₁ hs₂
  exact Rounds.wp_send_pointsTo 𝒱₀ ER (rd m) (c : Thread nD τ) none (κ₁ := κ₁) (κ₂ := κ₂) (r₁ := 0) (r₂ := 0) (d₁ := false) (d₂ := false) (fd := fd)
    (by rw [duties_send, if_pos hs]; exact Finset.mem_singleton_self _) (by rw [duties_recv, if_pos hr]; exact Finset.mem_singleton_self _)
    () () N (show dst.view.amount (.dma (recvS j)) = N from hN) (amount_send m c j false) (amount_recv m n j false) X rfl (W := W)
    (by rw [payload_send]; exact hp₁) (by rw [payload_recv]; exact hp₂) (hr := hrt)

/-- The waits for two transfers under a condition `C`, as one step; the cells are closed after it. -/
theorem guard_wait₂ {P C : Prop} [Decidable P] [Decidable C] (hC : C ↔ P) {q₁ q₂ : DmaSem sig}
    (he₁ : P → (rd (F := F) m).expect ((c : Thread nD τ), .dma q₁) 0 = N) (he₂ : P → (rd (F := F) m).expect ((c : Thread nD τ), .dma q₂) 0 = N)
    (hn₁ : ¬ P → ∀ r, 0 ≤ r → (rd (F := F) m).duties ((c : Thread nD τ), .dma q₁) r = ∅)
    (hn₂ : ¬ P → ∀ r, 0 ≤ r → (rd (F := F) m).duties ((c : Thread nD τ), .dma q₂) r = ∅)
    {A₁ A₂ B : sProp 𝕄}
    (ha₁ : P → bigSep ((rd (F := F) m).duties ((c : Thread nD τ), .dma q₁) 0 \ ∅) (fun d => (rd (F := F) m).payload ((c : Thread nD τ), .dma q₁) 0 d) ⊢ A₁)
    (ha₂ : P → bigSep ((rd (F := F) m).duties ((c : Thread nD τ), .dma q₂) 0 \ ∅) (fun d => (rd (F := F) m).payload ((c : Thread nD τ), .dma q₂) 0 d) ⊢ A₂)
    {κ₁ κ₂ : ℕ} {s₁ s₂ : DmaSem sig} (hs₁ : s₁ = q₁) (hs₂ : s₂ = q₂)
    {src₁ dst₁ src₂ dst₂ : Memref sig .tc .vmem S128x1024 .bf16} (hN₁ : dst₁.view.dmaCredit = N) (hN₂ : dst₂.view.dmaCredit = N)
    {hw₁ : src₁.view.WordExact} {hw₂ : dst₁.view.WordExact} {hw₃ : src₂.view.WordExact} {hw₄ : dst₂.view.WordExact}
    {k : Prog (TpuEff nD τ sig (Elt F) Λ₀ .tc) α} {Q : α → sProp 𝕄} :
    iprop(cellInv ER (rd m) κ₁ ((c : Thread nD τ), .dma q₁) ∗ cellInv ER (rd m) κ₂ ((c : Thread nD τ), .dma q₂)
        ∗ atPos ER ((c : Thread nD τ), .dma q₁) 0 ∅ 0 ∗ atPos ER ((c : Thread nD τ), .dma q₂) 0 ∅ 0
        ∗ (if P then iprop(cred (tallyAt ((c : Thread nD τ), .dma q₁) () N) ∗ cred (tallyAt ((c : Thread nD τ), .dma q₂) () N)) else B)
        ∗ owes (c : Thread nD τ) 0 W)
      ⊢ iprop((((∃ W', owes (c : Thread nD τ) 0 W') ∗ semVal ((c : Thread nD τ), .dma q₁) 0 ∗ semVal ((c : Thread nD τ), .dma q₂) 0
              ∗ (if P then iprop(A₁ ∗ A₂) else B))
            -∗ wp frame (wpE (defs₀ (F := F)) 𝒱₀ (c : Thread nD τ) none) Set.univ k Q)
          -∗ wp frame (wpE (defs₀ (F := F)) 𝒱₀ (c : Thread nD τ) none) Set.univ
              (if h : C then (Prog.lift (.waitDma2 s₁ src₁ dst₁ hw₁ hw₂) >>= fun _ => Prog.lift (.waitDma2 s₂ src₂ dst₂ hw₃ hw₄) >>= fun _ => k) else k) Q) := by
  subst hs₁ hs₂
  by_cases h : C
  · have hP := hC.1 h
    simp only [dif_pos h, if_pos hP]
    iintro ⟨#HI₁, #HI₂, Hat₁, Hat₂, ⟨Hc₁, Hc₂⟩, HO⟩ Hk
    iapply (Rounds.wp_wait_rest_token 𝒱₀ ER (rd m) (c : Thread nD τ) none (κ := κ₁)
      (wpE_waitDma2_eq 𝒱₀ (c : Thread nD τ) none Set.univ) (Set.mem_univ _) () (O := 0) (W := W) (R := 0) (m := 0) (T := ∅)
      (by rw [Nat.zero_add, he₁ hP, hN₁])) $$ [Hc₁ HO Hat₁]
    · isplitr; · iexact HI₁
      isplitl [Hc₁]; · rw [hN₁]; iexact Hc₁
      isplitl [HO]; · iexact HO
      isplitr; · rw [MayWait_zero]; iempintro
      iexact Hat₁
    iintro ⟨HO, Hat₁, -, Hpay₁⟩
    iapply (Rounds.wp_wait_rest_token 𝒱₀ ER (rd m) (c : Thread nD τ) none (κ := κ₂)
      (wpE_waitDma2_eq 𝒱₀ (c : Thread nD τ) none Set.univ) (Set.mem_univ _) () (O := 0) (R := 0) (m := 0) (T := ∅)
      (by rw [Nat.zero_add, he₂ hP, hN₂])) $$ [Hc₂ HO Hat₂]
    · isplitr; · iexact HI₂
      isplitl [Hc₂]; · rw [hN₂]; iexact Hc₂
      isplitl [HO]; · iexact HO
      isplitr; · rw [MayWait_zero]; iempintro
      iexact Hat₂
    iintro ⟨HO, Hat₂, -, Hpay₂⟩
    imod (Rounds.cell_close ER (rd m) (Set.mem_univ κ₁) (fun h => h) (R := 0 + 1) (duties_later m _)) $$ [Hat₁] with Hz₁
    · isplitr; · iexact HI₁
      iexact Hat₁
    imod (Rounds.cell_close ER (rd m) (Set.mem_univ κ₂) (fun h => h) (R := 0 + 1) (duties_later m _)) $$ [Hat₂] with Hz₂
    · isplitr; · iexact HI₂
      iexact Hat₂
    iapply Hk
    isplitl [HO]; · iexists _; iexact HO
    isplitl [Hz₁]; · iexact Hz₁
    isplitl [Hz₂]; · iexact Hz₂
    isplitl [Hpay₁]; · iapply (ha₁ hP); iexact Hpay₁
    iapply (ha₂ hP); iexact Hpay₂
  · have hP : ¬ P := fun hP => h (hC.2 hP)
    simp only [dif_neg h, if_neg hP]
    iintro ⟨#HI₁, #HI₂, Hat₁, Hat₂, HB, HO⟩ Hk
    imod (Rounds.cell_close ER (rd m) (Set.mem_univ κ₁) (fun h => h) (R := 0) (hn₁ hP)) $$ [Hat₁] with Hz₁
    · isplitr; · iexact HI₁
      iexact Hat₁
    imod (Rounds.cell_close ER (rd m) (Set.mem_univ κ₂) (fun h => h) (R := 0) (hn₂ hP)) $$ [Hat₂] with Hz₂
    · isplitr; · iexact HI₂
      iexact Hat₂
    iapply Hk
    isplitl [HO]; · iexists _; iexact HO
    isplitl [Hz₁]; · iexact Hz₁
    isplitl [Hz₂]; · iexact Hz₂
    iexact HB

/-- What a halo transfer `j` from `c` to `n` needs besides the buffers. -/
def ticket (c n : Dev nD) (j : Fin 4) : sProp 𝕄 :=
  iprop(cellInv ER (rd m) (K (c, ⟨1 + j.val, by omega⟩)) (sendCell j c) ∗ cellInv ER (rd m) (K (n, ⟨5 + j.val, by omega⟩)) (recvCell j n)
    ∗ dutyTok ER (sendCell j c) 0 false ∗ reached ER (sendCell j c) 0 ∗ dutyTok ER (recvCell j n) 0 false ∗ reached ER (recvCell j n) 0)

/-- Two halo transfers to one device under a condition `C`, as one step. -/
theorem guard_send₂ {P C : Prop} [Decidable P] [Decidable C] (hC : C ↔ P) {n₀ : Dev nD} {n₁ n₂ : C → Dev nD} (hn₁ : ∀ h, n₁ h = n₀) (hn₂ : ∀ h, n₂ h = n₀)
    (hrt : τ.routes (c : Thread nD τ) (n₀ : Thread nD τ) = true) (i j : Fin 4)
    (hi : P → sends c i) (hi' : P → recvs n₀ i) (hj : P → sends c j) (hj' : P → recvs n₀ j)
    {a₁ b₁ a₂ b₂ : Memref sig .tc .vmem S128x1024 .bf16} (ha₁ : a₁.view.set = Finset.univ) (hb₁ : b₁.view.set = Finset.univ)
    (ha₂ : a₂.view.set = Finset.univ) (hb₂ : b₂.view.set = Finset.univ)
    {f₁ : Buf (Elt F) (a₁.view.loc (c : Thread nD τ))} {f₂ : Buf (Elt F) (a₂.view.loc (c : Thread nD τ))}
    (hN₁ : b₁.view.dmaCredit = N) (hN₂ : b₂.view.dmaCredit = N)
    (hp₁ : (a₁.view.loc (c : Thread nD τ) ↦{fullShare} f₁) ⊢ sendPay m c i) (hp₂ : (a₂.view.loc (c : Thread nD τ) ↦{fullShare} f₂) ⊢ sendPay m c j)
    (hr₁ : ∀ fd, (b₁.view.loc (n₀ : Thread nD τ) ↦{fullShare} (b₁.view.write (Elt F) fd (a₁.view.read (Elt F) f₁) Finset.univ)) ⊢ recvPay m n₀ i)
    (hr₂ : ∀ fd, (b₂.view.loc (n₀ : Thread nD τ) ↦{fullShare} (b₂.view.write (Elt F) fd (a₂.view.read (Elt F) f₂) Finset.univ)) ⊢ recvPay m n₀ j)
    {s₁ s₂ s₃ s₄ : DmaSem sig} (hs₁ : s₁ = sendS i) (hs₂ : s₂ = recvS i) (hs₃ : s₃ = sendS j) (hs₄ : s₄ = recvS j)
    {hc₁ : b₁.view.ref.isScScratch = false} {hc₂ : b₂.view.ref.isScScratch = false}
    {hw₁ : a₁.view.WordExact} {hw₂ : b₁.view.WordExact} {hw₃ : a₂.view.WordExact} {hw₄ : b₂.view.WordExact}
    {ht₁ : ∀ h, DmaTarget.Typed .vmem (.dma s₂) (.remote (n₁ h : Thread nD τ) b₁ (.dma s₁) hc₁)}
    {ht₂ : ∀ h, DmaTarget.Typed .vmem (.dma s₄) (.remote (n₂ h : Thread nD τ) b₂ (.dma s₃) hc₂)}
    {k : Prog (TpuEff nD τ sig (Elt F) Λ₀ .tc) α} {Q : α → sProp 𝕄} :
    iprop(ticket m K c n₀ i ∗ ticket m K c n₀ j
        ∗ (a₁.view.loc (c : Thread nD τ) ↦{fullShare} f₁) ∗ (a₂.view.loc (c : Thread nD τ) ↦{fullShare} f₂)
        ∗ (if P then iprop((∃ fd, b₁.view.loc (n₀ : Thread nD τ) ↦{fullShare} fd) ∗ ∃ fd, b₂.view.loc (n₀ : Thread nD τ) ↦{fullShare} fd) else iprop(emp))
        ∗ owes (c : Thread nD τ) (X + if P then tallyAt (recvCell j n₀) () N + tallyAt (recvCell i n₀) () N else 0) W)
      ⊢ iprop(((owes (c : Thread nD τ) X W
              ∗ if P then iprop(cred (tallyAt (sendCell i c) () N) ∗ cred (tallyAt (sendCell j c) () N))
                else iprop((a₁.view.loc (c : Thread nD τ) ↦{fullShare} f₁) ∗ (a₂.view.loc (c : Thread nD τ) ↦{fullShare} f₂)))
            -∗ wp frame (wpE (defs₀ (F := F)) 𝒱₀ (c : Thread nD τ) none) Set.univ k Q)
          -∗ wp frame (wpE (defs₀ (F := F)) 𝒱₀ (c : Thread nD τ) none) Set.univ
              (if h : C then (Prog.lift (.enqueueDma a₁ (.remote (n₁ h : Thread nD τ) b₁ (.dma s₁) hc₁) (.dma s₂) hw₁ hw₂ (ht₁ h)) >>= fun _ =>
                Prog.lift (.enqueueDma a₂ (.remote (n₂ h : Thread nD τ) b₂ (.dma s₃) hc₂) (.dma s₄) hw₃ hw₄ (ht₂ h)) >>= fun _ => k) else k) Q) := by
  by_cases h : C
  · have hP := hC.1 h
    simp only [dif_pos h, if_pos hP]
    obtain ⟨rfl⟩ := hn₁ h
    have e := hn₂ h
    generalize ht₂ h = t₂
    generalize n₂ h = n₂' at e t₂
    subst e
    unfold ticket
    iintro ⟨⟨HI₁, HI₂, Ht₁, Hr₁, Ht₂, Hr₂⟩, ⟨HI₃, HI₄, Ht₃, Hr₃, Ht₄, Hr₄⟩, Ha₁, Ha₂, ⟨⟨%g₁, Hb₁⟩, ⟨%g₂, Hb₂⟩⟩, HO⟩ Hk
    rw [← add_assoc]
    iapply (send_halo m i (hi hP) (hi' hP) hrt (fs := f₁) (fd := g₁) hN₁ (by rw [ha₁]; exact hp₁) (by rw [hb₁]; exact hr₁ g₁) hs₁ hs₂)
      $$ [HI₁ HI₂ Ht₁ Hr₁ Ht₂ Hr₂ Ha₁ Hb₁ HO]
    · isplitl [HI₁]; · iexact HI₁
      isplitl [HI₂]; · iexact HI₂
      isplitl [Ha₁]; · rw [ha₁]; iexact Ha₁
      isplitl [Hb₁]; · rw [hb₁]; iexact Hb₁
      isplitl [HO]; · iexact HO
      isplitl [Ht₁]; · iexact Ht₁
      isplitl [Hr₁]; · iexact Hr₁
      isplitl [Ht₂]; · iexact Ht₂
      iexact Hr₂
    iintro ⟨Hc₁, HO⟩
    iapply (send_halo m j (hj hP) (hj' hP) hrt (fs := f₂) (fd := g₂) hN₂ (by rw [ha₂]; exact hp₂) (by rw [hb₂]; exact hr₂ g₂) hs₃ hs₄)
      $$ [HI₃ HI₄ Ht₃ Hr₃ Ht₄ Hr₄ Ha₂ Hb₂ HO]
    · isplitl [HI₃]; · iexact HI₃
      isplitl [HI₄]; · iexact HI₄
      isplitl [Ha₂]; · rw [ha₂]; iexact Ha₂
      isplitl [Hb₂]; · rw [hb₂]; iexact Hb₂
      isplitl [HO]; · iexact HO
      isplitl [Ht₃]; · iexact Ht₃
      isplitl [Hr₃]; · iexact Hr₃
      isplitl [Ht₄]; · iexact Ht₄
      iexact Hr₄
    iintro ⟨Hc₂, HO⟩
    iapply Hk
    isplitl [HO]; · iexact HO
    isplitl [Hc₁]; · iexact Hc₁
    iexact Hc₂
  · have hP : ¬ P := fun hP => h (hC.2 hP)
    simp only [dif_neg h, if_neg hP, add_zero]
    iintro ⟨-, -, Ha₁, Ha₂, -, HO⟩ Hk
    iapply Hk
    isplitl [HO]; · iexact HO
    isplitl [Ha₁]; · iexact Ha₁
    iexact Ha₂

theorem amt1_toInt (c : Dev nD) : (k0_amt1 c).toInt = (nb c : ℤ) := by revert c; decide

/-- The barrier wait: a unit from each neighbour, and with it the neighbour's landing buffers; the cell is closed after it. -/
theorem wait_bar {κ : ℕ} {s : Sem sig} (hs : s = barS) {n : BitVec 32} (hn : n.toInt = (nb c : ℤ))
    {k : PUnit → Prog (TpuEff nD τ sig (Elt F) Λ₀ .tc) α} {Q : α → sProp 𝕄} :
    iprop(cellInv ER (rd m) κ (barCell c) ∗ cred (tallyAt (barCell c) () (nb c)) ∗ atPos ER (barCell c) 0 ∅ 0 ∗ levAts L lv ∗ owes (c : Thread nD τ) (O₁ c) W)
      ⊢ iprop((((∃ W', owes (c : Thread nD τ) (O₁ c) W') ∗ semVal (barCell c) 0 ∗ gotL c ∗ gotR c)
            -∗ wp frame (wpE (defs₀ (F := F)) 𝒱₀ (c : Thread nD τ) none) Set.univ (k ⟨⟩) Q)
          -∗ wp frame (wpE (defs₀ (F := F)) 𝒱₀ (c : Thread nD τ) none) Set.univ (semWaitWord s n >>= k) Q) := by
  subst hs
  unfold semWaitWord
  rw [hn]
  iintro ⟨#HI, Hc, Hat, #Hlev, HO⟩ Hk
  iapply (Rounds.wp_wait_rest_token 𝒱₀ ER (rd m) (c : Thread nD τ) none (κ := κ)
    (wpE_semWait_eq 𝒱₀ (c : Thread nD τ) none Set.univ) (Set.mem_univ _) () (O := O₁ c) (W := W) (R := 0) (m := 0) (T := ∅)
    (by rw [Nat.zero_add, expect_bar])) $$ [Hc HO Hat]
  · isplitr; · iexact HI
    isplitl [Hc]; · iexact Hc
    isplitl [HO]; · iexact HO
    isplitr; · iapply (mayWait_low c (.reg barS) (by show (if barS = barS then 1 else 0) ≤ 1; rw [if_pos rfl])); iexact Hlev
    iexact Hat
  iintro ⟨HO, Hat, -, Hpay⟩
  imod (Rounds.cell_close ER (rd m) (Set.mem_univ κ) (fun h => h) (R := 0 + 1) (duties_later m _)) $$ [Hat] with Hz
  · isplitr; · iexact HI
    iexact Hat
  iapply Hk
  isplitl [HO]; · iexists _; iexact HO
  isplitl [Hz]; · iexact Hz
  iapply (rest_bar m c); iexact Hpay

/-! ## The kernel's guarded steps -/

theorem sends_even (c : Dev nD) : (sends c 0 ↔ hasL c) ∧ (sends c 2 ↔ hasL c) := ⟨Iff.rfl, Iff.rfl⟩
theorem sends_odd (c : Dev nD) : (sends c 1 ↔ hasR c) ∧ (sends c 3 ↔ hasR c) := ⟨Iff.rfl, Iff.rfl⟩
theorem recvs_even (c : Dev nD) : (recvs c 0 ↔ hasR c) ∧ (recvs c 2 ↔ hasR c) := ⟨Iff.rfl, Iff.rfl⟩
theorem recvs_odd (c : Dev nD) : (recvs c 1 ↔ hasL c) ∧ (recvs c 3 ↔ hasL c) := ⟨Iff.rfl, Iff.rfl⟩

/-- The landing buffers for what comes from the left, and from the right. -/
def landL (c : Dev nD) : sProp 𝕄 := iprop((∃ f, held c cc0_scratch14 f) ∗ ∃ f, held c cc0_scratch16 f)
def landR (c : Dev nD) : sProp 𝕄 := iprop((∃ f, held c cc0_scratch15 f) ∗ ∃ f, held c cc0_scratch17 f)

/-- The right to signal to the left, and to the right. -/
def sigL (c : Dev nD) : sProp 𝕄 :=
  iprop(cellInv ER (rd m) (K (prv c, 0)) (barCell (prv c)) ∗ dutyTok ER (barCell (prv c)) 0 true ∗ reached ER (barCell (prv c)) 0)
def sigR (c : Dev nD) : sProp 𝕄 :=
  iprop(cellInv ER (rd m) (K (nxt c, 0)) (barCell (nxt c)) ∗ dutyTok ER (barCell (nxt c)) 0 false ∗ reached ER (barCell (nxt c)) 0)

/-- On a side without a neighbour the landing buffers stay. -/
def keptL (c : Dev nD) : sProp 𝕄 := if hasL c then iprop(emp) else landL c
def keptR (c : Dev nD) : sProp 𝕄 := if hasR c then iprop(emp) else landR c

theorem guard_sigL {s : Sem sig} (hs : s = barS) {k : Prog (TpuEff nD τ sig (Elt F) Λ₀ .tc) α} {Q : α → sProp 𝕄} :
    iprop(sigL m K c ∗ landL c ∗ owes (c : Thread nD τ) (X + owSigL c) W)
      ⊢ iprop(((owes (c : Thread nD τ) X W ∗ keptL c) -∗ wp frame (wpE (defs₀ (F := F)) 𝒱₀ (c : Thread nD τ) none) Set.univ k Q)
          -∗ wp frame (wpE (defs₀ (F := F)) 𝒱₀ (c : Thread nD τ) none) Set.univ
              (if h : k0_cond1 c = 1#1 then (semSignalWord ⟨k0_dev1 c, k0_dev1_lt c h⟩ s 1#32 >>= fun _ => k) else k) Q) := by
  unfold sigL keptL owSigL
  iintro ⟨⟨HI, Ht, Hr⟩, HR, HO⟩ Hk
  iapply (guard_signal m (cond1_iff c) (dev1_eq c) true (R := landL c) (fun h => by rw [duties_bar]; simp [hasR_prv, h])
    (fun h => by rw [payload_bar]; rw [if_pos rfl]; unfold barPayR landL; rw [nxt_prv]) (by routes) hs) $$ [HI Ht Hr HR HO]
  · isplitl [HI]; · iexact HI
    isplitl [Ht]; · iexact Ht
    isplitl [Hr]; · iexact Hr
    isplitl [HR]; · iexact HR
    iexact HO
  iexact Hk

theorem guard_sigR {s : Sem sig} (hs : s = barS) {k : Prog (TpuEff nD τ sig (Elt F) Λ₀ .tc) α} {Q : α → sProp 𝕄} :
    iprop(sigR m K c ∗ landR c ∗ owes (c : Thread nD τ) (X + owSigR c) W)
      ⊢ iprop(((owes (c : Thread nD τ) X W ∗ keptR c) -∗ wp frame (wpE (defs₀ (F := F)) 𝒱₀ (c : Thread nD τ) none) Set.univ k Q)
          -∗ wp frame (wpE (defs₀ (F := F)) 𝒱₀ (c : Thread nD τ) none) Set.univ
              (if h : k0_cond2 c = 1#1 then (semSignalWord ⟨k0_dev2 c, k0_dev2_lt c h⟩ s 1#32 >>= fun _ => k) else k) Q) := by
  unfold sigR keptR owSigR
  iintro ⟨⟨HI, Ht, Hr⟩, HR, HO⟩ Hk
  iapply (guard_signal m (cond2_iff c) (dev2_eq c) false (R := landR c) (fun h => by rw [duties_bar]; simp [hasL_nxt, h])
    (fun h => by rw [payload_bar]; rw [if_neg Bool.false_ne_true]; unfold barPayL landR; rw [prv_nxt]) (by routes) hs) $$ [HI Ht Hr HR HO]
  · isplitl [HI]; · iexact HI
    isplitl [Ht]; · iexact Ht
    isplitl [Hr]; · iexact Hr
    isplitl [HR]; · iexact HR
    iexact HO
  iexact Hk

/-- After the sends: the right to wait for them, or, without a neighbour, the source buffers. -/
def sentL (c : Dev nD) : sProp 𝕄 :=
  if hasL c then iprop(cred (tallyAt (sendCell 0 c) () N) ∗ cred (tallyAt (sendCell 2 c) () N))
  else iprop(held c cc0_scratch10 (sent0 m c) ∗ held c cc0_scratch12 (sent2 m c))
def sentR (c : Dev nD) : sProp 𝕄 :=
  if hasR c then iprop(cred (tallyAt (sendCell 1 c) () N) ∗ cred (tallyAt (sendCell 3 c) () N))
  else iprop(held c cc0_scratch11 (sent1 m c) ∗ held c cc0_scratch13 (sent3 m c))

theorem guard_sendL {n₁ n₂ : k0_cond3 c = 1#1 → Dev nD} (hn₁ : ∀ h, n₁ h = prv c) (hn₂ : ∀ h, n₂ h = prv c)
    {s₁ s₂ s₃ s₄ : DmaSem sig} (hs₁ : s₁ = sendS 0) (hs₂ : s₂ = recvS 0) (hs₃ : s₃ = sendS 2) (hs₄ : s₄ = recvS 2)
    {hc₁ : (Memref.whole cc0_scratch15 : Memref sig .tc .vmem S128x1024 .bf16).view.ref.isScScratch = false} {hc₂ : (Memref.whole cc0_scratch17 : Memref sig .tc .vmem S128x1024 .bf16).view.ref.isScScratch = false}
    {hw₁ : (Memref.whole cc0_scratch10 : Memref sig .tc .vmem S128x1024 .bf16).view.WordExact} {hw₂ : (Memref.whole cc0_scratch15 : Memref sig .tc .vmem S128x1024 .bf16).view.WordExact}
    {hw₃ : (Memref.whole cc0_scratch12 : Memref sig .tc .vmem S128x1024 .bf16).view.WordExact} {hw₄ : (Memref.whole cc0_scratch17 : Memref sig .tc .vmem S128x1024 .bf16).view.WordExact}
    {ht₁ : ∀ h, DmaTarget.Typed .vmem (.dma s₂) (.remote (n₁ h : Thread nD τ) (Memref.whole cc0_scratch15 : Memref sig .tc .vmem S128x1024 .bf16) (.dma s₁) hc₁)}
    {ht₂ : ∀ h, DmaTarget.Typed .vmem (.dma s₄) (.remote (n₂ h : Thread nD τ) (Memref.whole cc0_scratch17 : Memref sig .tc .vmem S128x1024 .bf16) (.dma s₃) hc₂)}
    {k : Prog (TpuEff nD τ sig (Elt F) Λ₀ .tc) α} {Q : α → sProp 𝕄} :
    iprop(ticket m K c (prv c) 0 ∗ ticket m K c (prv c) 2 ∗ held c cc0_scratch10 (sent0 m c) ∗ held c cc0_scratch12 (sent2 m c) ∗ gotL c
        ∗ owes (c : Thread nD τ) (X + owSendL c) W)
      ⊢ iprop(((owes (c : Thread nD τ) X W ∗ sentL m c) -∗ wp frame (wpE (defs₀ (F := F)) 𝒱₀ (c : Thread nD τ) none) Set.univ k Q)
          -∗ wp frame (wpE (defs₀ (F := F)) 𝒱₀ (c : Thread nD τ) none) Set.univ
              (if h : k0_cond3 c = 1#1 then
                (Prog.lift (.enqueueDma (Memref.whole cc0_scratch10 : Memref sig .tc .vmem S128x1024 .bf16) (.remote (n₁ h : Thread nD τ) (Memref.whole cc0_scratch15 : Memref sig .tc .vmem S128x1024 .bf16) (.dma s₁) hc₁) (.dma s₂) hw₁ hw₂ (ht₁ h)) >>= fun _ =>
                Prog.lift (.enqueueDma (Memref.whole cc0_scratch12 : Memref sig .tc .vmem S128x1024 .bf16) (.remote (n₂ h : Thread nD τ) (Memref.whole cc0_scratch17 : Memref sig .tc .vmem S128x1024 .bf16) (.dma s₃) hc₂) (.dma s₄) hw₃ hw₄ (ht₂ h)) >>= fun _ => k)
              else k) Q) := by
  unfold gotL sentL owSendL barPayL
  exact guard_send₂ m K (cond3_iff c) hn₁ hn₂ (by routes) 0 2 id (hasR_prv c).2 id (hasR_prv c).2
    (View.set_whole _) (View.set_whole _) (View.set_whole _) (View.set_whole _) (f₁ := sent0 m c) (f₂ := sent2 m c)
    (a₁ := (Memref.whole cc0_scratch10 : Memref sig .tc .vmem S128x1024 .bf16)) (b₁ := (Memref.whole cc0_scratch15 : Memref sig .tc .vmem S128x1024 .bf16)) (a₂ := (Memref.whole cc0_scratch12 : Memref sig .tc .vmem S128x1024 .bf16)) (b₂ := (Memref.whole cc0_scratch17 : Memref sig .tc .vmem S128x1024 .bf16)) rfl rfl
    (Entails.of_eq (show held c cc0_scratch10 (sent0 m c) = sendPay m c 0 from rfl)) (Entails.of_eq (show held c cc0_scratch12 (sent2 m c) = sendPay m c 2 from rfl))
    (fun fd => by
      rw [show recvPay m (prv c) 0 = held (prv c) cc0_scratch15 (sent0 m c) from
        (congrArg (fun d => held (prv c) cc0_scratch15 (sent0 m d)) (nxt_prv c))]
      exact Entails.of_eq (congrArg (fun f => held (prv c) cc0_scratch15 f) (View.write_whole_univ cc0_scratch15 fd (sent0 m c))))
    (fun fd => by
      rw [show recvPay m (prv c) 2 = held (prv c) cc0_scratch17 (sent2 m c) from
        (congrArg (fun d => held (prv c) cc0_scratch17 (sent2 m d)) (nxt_prv c))]
      exact Entails.of_eq (congrArg (fun f => held (prv c) cc0_scratch17 f) (View.write_whole_univ cc0_scratch17 fd (sent2 m c))))
    hs₁ hs₂ hs₃ hs₄

theorem guard_sendR {n₁ n₂ : k0_cond4 c = 1#1 → Dev nD} (hn₁ : ∀ h, n₁ h = nxt c) (hn₂ : ∀ h, n₂ h = nxt c)
    {s₁ s₂ s₃ s₄ : DmaSem sig} (hs₁ : s₁ = sendS 1) (hs₂ : s₂ = recvS 1) (hs₃ : s₃ = sendS 3) (hs₄ : s₄ = recvS 3)
    {hc₁ : (Memref.whole cc0_scratch14 : Memref sig .tc .vmem S128x1024 .bf16).view.ref.isScScratch = false} {hc₂ : (Memref.whole cc0_scratch16 : Memref sig .tc .vmem S128x1024 .bf16).view.ref.isScScratch = false}
    {hw₁ : (Memref.whole cc0_scratch11 : Memref sig .tc .vmem S128x1024 .bf16).view.WordExact} {hw₂ : (Memref.whole cc0_scratch14 : Memref sig .tc .vmem S128x1024 .bf16).view.WordExact}
    {hw₃ : (Memref.whole cc0_scratch13 : Memref sig .tc .vmem S128x1024 .bf16).view.WordExact} {hw₄ : (Memref.whole cc0_scratch16 : Memref sig .tc .vmem S128x1024 .bf16).view.WordExact}
    {ht₁ : ∀ h, DmaTarget.Typed .vmem (.dma s₂) (.remote (n₁ h : Thread nD τ) (Memref.whole cc0_scratch14 : Memref sig .tc .vmem S128x1024 .bf16) (.dma s₁) hc₁)}
    {ht₂ : ∀ h, DmaTarget.Typed .vmem (.dma s₄) (.remote (n₂ h : Thread nD τ) (Memref.whole cc0_scratch16 : Memref sig .tc .vmem S128x1024 .bf16) (.dma s₃) hc₂)}
    {k : Prog (TpuEff nD τ sig (Elt F) Λ₀ .tc) α} {Q : α → sProp 𝕄} :
    iprop(ticket m K c (nxt c) 1 ∗ ticket m K c (nxt c) 3 ∗ held c cc0_scratch11 (sent1 m c) ∗ held c cc0_scratch13 (sent3 m c) ∗ gotR c
        ∗ owes (c : Thread nD τ) (X + owSendR c) W)
      ⊢ iprop(((owes (c : Thread nD τ) X W ∗ sentR m c) -∗ wp frame (wpE (defs₀ (F := F)) 𝒱₀ (c : Thread nD τ) none) Set.univ k Q)
          -∗ wp frame (wpE (defs₀ (F := F)) 𝒱₀ (c : Thread nD τ) none) Set.univ
              (if h : k0_cond4 c = 1#1 then
                (Prog.lift (.enqueueDma (Memref.whole cc0_scratch11 : Memref sig .tc .vmem S128x1024 .bf16) (.remote (n₁ h : Thread nD τ) (Memref.whole cc0_scratch14 : Memref sig .tc .vmem S128x1024 .bf16) (.dma s₁) hc₁) (.dma s₂) hw₁ hw₂ (ht₁ h)) >>= fun _ =>
                Prog.lift (.enqueueDma (Memref.whole cc0_scratch13 : Memref sig .tc .vmem S128x1024 .bf16) (.remote (n₂ h : Thread nD τ) (Memref.whole cc0_scratch16 : Memref sig .tc .vmem S128x1024 .bf16) (.dma s₃) hc₂) (.dma s₄) hw₃ hw₄ (ht₂ h)) >>= fun _ => k)
              else k) Q) := by
  unfold gotR sentR owSendR barPayR
  exact guard_send₂ m K (cond4_iff c) hn₁ hn₂ (by routes) 1 3 id (hasL_nxt c).2 id (hasL_nxt c).2
    (View.set_whole _) (View.set_whole _) (View.set_whole _) (View.set_whole _) (f₁ := sent1 m c) (f₂ := sent3 m c)
    (a₁ := (Memref.whole cc0_scratch11 : Memref sig .tc .vmem S128x1024 .bf16)) (b₁ := (Memref.whole cc0_scratch14 : Memref sig .tc .vmem S128x1024 .bf16)) (a₂ := (Memref.whole cc0_scratch13 : Memref sig .tc .vmem S128x1024 .bf16)) (b₂ := (Memref.whole cc0_scratch16 : Memref sig .tc .vmem S128x1024 .bf16)) rfl rfl
    (Entails.of_eq (show held c cc0_scratch11 (sent1 m c) = sendPay m c 1 from rfl)) (Entails.of_eq (show held c cc0_scratch13 (sent3 m c) = sendPay m c 3 from rfl))
    (fun fd => by
      rw [show recvPay m (nxt c) 1 = held (nxt c) cc0_scratch14 (sent1 m c) from
        (congrArg (fun d => held (nxt c) cc0_scratch14 (sent1 m d)) (prv_nxt c))]
      exact Entails.of_eq (congrArg (fun f => held (nxt c) cc0_scratch14 f) (View.write_whole_univ cc0_scratch14 fd (sent1 m c))))
    (fun fd => by
      rw [show recvPay m (nxt c) 3 = held (nxt c) cc0_scratch16 (sent3 m c) from
        (congrArg (fun d => held (nxt c) cc0_scratch16 (sent3 m d)) (prv_nxt c))]
      exact Entails.of_eq (congrArg (fun f => held (nxt c) cc0_scratch16 f) (View.write_whole_univ cc0_scratch16 fd (sent3 m c))))
    hs₁ hs₂ hs₃ hs₄

/-- The rows above a device's own: the left neighbour's last 128, or zeros. -/
def topK (c : Dev nD) : FVec F S128x1024 .bf16 := if hasL c then sent1 m (prv c) else k0_pay6
def topV (c : Dev nD) : FVec F S128x1024 .bf16 := if hasL c then sent3 m (prv c) else k0_pay7
/-- The rows below a device's own: the right neighbour's first 128, or zeros. -/
def botK (c : Dev nD) : FVec F S128x1024 .bf16 := if hasR c then sent0 m (nxt c) else k0_pay8
def botV (c : Dev nD) : FVec F S128x1024 .bf16 := if hasR c then sent2 m (nxt c) else k0_pay9

/-- Landing buffers without a neighbour, filled with zeros. -/
def zeroL (c : Dev nD) : sProp 𝕄 :=
  if hasL c then iprop(emp) else iprop(held c cc0_scratch14 (k0_pay6 (F := F)) ∗ held c cc0_scratch16 (k0_pay7 (F := F)))
def zeroR (c : Dev nD) : sProp 𝕄 :=
  if hasR c then iprop(emp) else iprop(held c cc0_scratch15 (k0_pay8 (F := F)) ∗ held c cc0_scratch17 (k0_pay9 (F := F)))

/-- What the wait for receive cell `j`, and for send cell `j`, takes besides the credit. -/
def atRecv (c : Dev nD) (j : Fin 4) : sProp 𝕄 := iprop(cellInv ER (rd m) (K (c, ⟨5 + j.val, by omega⟩)) (recvCell j c) ∗ atPos ER (recvCell j c) 0 ∅ 0)
def atSend (c : Dev nD) (j : Fin 4) : sProp 𝕄 := iprop(cellInv ER (rd m) (K (c, ⟨1 + j.val, by omega⟩)) (sendCell j c) ∗ atPos ER (sendCell j c) 0 ∅ 0)
/-- The credit for receive cell `j`. -/
def credRecv (c : Dev nD) (j : Fin 4) : sProp 𝕄 := cred (tallyAt (recvCell j c) () (if recvs c j then N else 0))

theorem duties_recv_none (c : Dev nD) (j : Fin 4) (h : ¬ recvs c j) : ∀ r, 0 ≤ r → (rd (F := F) m).duties (recvCell j c) r = ∅ := fun r _ => by
  rcases Nat.eq_zero_or_pos r with rfl | hr
  · rw [duties_recv, if_neg h]
  · exact duties_later m _ r hr
theorem duties_send_none (c : Dev nD) (j : Fin 4) (h : ¬ sends c j) : ∀ r, 0 ≤ r → (rd (F := F) m).duties (sendCell j c) r = ∅ := fun r _ => by
  rcases Nat.eq_zero_or_pos r with rfl | hr
  · rw [duties_send, if_neg h]
  · exact duties_later m _ r hr

theorem guard_recvL {C : Prop} [Decidable C] (hC : C ↔ hasL c) {s₁ s₂ : DmaSem sig} (hs₁ : s₁ = recvS 1) (hs₂ : s₂ = recvS 3)
    {hw₁ : (Memref.whole cc0_scratch11 : Memref sig .tc .vmem S128x1024 .bf16).view.WordExact} {hw₂ : (Memref.whole cc0_scratch14 : Memref sig .tc .vmem S128x1024 .bf16).view.WordExact}
    {hw₃ : (Memref.whole cc0_scratch13 : Memref sig .tc .vmem S128x1024 .bf16).view.WordExact} {hw₄ : (Memref.whole cc0_scratch16 : Memref sig .tc .vmem S128x1024 .bf16).view.WordExact}
    {k : Prog (TpuEff nD τ sig (Elt F) Λ₀ .tc) α} {Q : α → sProp 𝕄} :
    iprop(atRecv m K c 1 ∗ atRecv m K c 3 ∗ credRecv c 1 ∗ credRecv c 3 ∗ zeroL c ∗ owes (c : Thread nD τ) 0 W)
      ⊢ iprop((((∃ W', owes (c : Thread nD τ) 0 W') ∗ semVal (recvCell 1 c) 0 ∗ semVal (recvCell 3 c) 0
              ∗ held c cc0_scratch14 (topK m c) ∗ held c cc0_scratch16 (topV m c))
            -∗ wp frame (wpE (defs₀ (F := F)) 𝒱₀ (c : Thread nD τ) none) Set.univ k Q)
          -∗ wp frame (wpE (defs₀ (F := F)) 𝒱₀ (c : Thread nD τ) none) Set.univ
              (if h : C then (Prog.lift (.waitDma2 s₁ (Memref.whole cc0_scratch11 : Memref sig .tc .vmem S128x1024 .bf16) (Memref.whole cc0_scratch14 : Memref sig .tc .vmem S128x1024 .bf16) hw₁ hw₂) >>= fun _ =>
                Prog.lift (.waitDma2 s₂ (Memref.whole cc0_scratch13 : Memref sig .tc .vmem S128x1024 .bf16) (Memref.whole cc0_scratch16 : Memref sig .tc .vmem S128x1024 .bf16) hw₃ hw₄) >>= fun _ => k) else k) Q) := by
  have key := guard_wait₂ (F := F) (α := α) (c := c) (W := W) m (P := hasL c) hC (q₁ := recvS 1) (q₂ := recvS 3)
    (fun h => (expect_recv m c 1).trans (if_pos h)) (fun h => (expect_recv m c 3).trans (if_pos h))
    (fun h => duties_recv_none m c 1 h) (fun h => duties_recv_none m c 3 h)
    (A₁ := held c cc0_scratch14 (sent1 m (prv c))) (A₂ := held c cc0_scratch16 (sent3 m (prv c)))
    (B := iprop(held c cc0_scratch14 (k0_pay6 (F := F)) ∗ held c cc0_scratch16 (k0_pay7 (F := F))))
    (fun h => Entails.of_eq (rest_recv m c 1 h)) (fun h => Entails.of_eq (rest_recv m c 3 h))
    (κ₁ := K (c, ⟨5 + (1 : Fin 4).val, by decide⟩)) (κ₂ := K (c, ⟨5 + (3 : Fin 4).val, by decide⟩)) hs₁ hs₂
    (src₁ := Memref.whole cc0_scratch11) (dst₁ := Memref.whole cc0_scratch14) (src₂ := Memref.whole cc0_scratch13) (dst₂ := Memref.whole cc0_scratch16)
    rfl rfl (hw₁ := hw₁) (hw₂ := hw₂) (hw₃ := hw₃) (hw₄ := hw₄) (k := k) (Q := Q)
  have hi : recvs c 1 = hasL c := rfl
  have hj : recvs c 3 = hasL c := rfl
  unfold atRecv credRecv zeroL topK topV
  iintro ⟨⟨HI₁, Hat₁⟩, ⟨HI₂, Hat₂⟩, Hc₁, Hc₂, HZ, HO⟩ Hk
  iapply key $$ [HI₁ Hat₁ HI₂ Hat₂ Hc₁ Hc₂ HZ HO]
  · isplitl [HI₁]; · iexact HI₁
    isplitl [HI₂]; · iexact HI₂
    isplitl [Hat₁]; · iexact Hat₁
    isplitl [Hat₂]; · iexact Hat₂
    isplitr [HO]
    · by_cases h : hasL c
      · have h₁ : recvs c 1 := h
        have h₂ : recvs c 3 := h
        simp only [if_pos h, if_pos h₁, if_pos h₂]
        isplitl [Hc₁]; · iexact Hc₁
        iexact Hc₂
      · simp only [if_neg h]
        iexact HZ
    iexact HO
  iintro ⟨HO, Hz₁, Hz₂, H⟩
  iapply Hk
  isplitl [HO]; · iexact HO
  isplitl [Hz₁]; · iexact Hz₁
  isplitl [Hz₂]; · iexact Hz₂
  by_cases h : hasL c
  · simp only [if_pos h]; iexact H
  · simp only [if_neg h]; iexact H

theorem guard_recvR {C : Prop} [Decidable C] (hC : C ↔ hasR c) {s₁ s₂ : DmaSem sig} (hs₁ : s₁ = recvS 0) (hs₂ : s₂ = recvS 2)
    {hw₁ : (Memref.whole cc0_scratch10 : Memref sig .tc .vmem S128x1024 .bf16).view.WordExact} {hw₂ : (Memref.whole cc0_scratch15 : Memref sig .tc .vmem S128x1024 .bf16).view.WordExact}
    {hw₃ : (Memref.whole cc0_scratch12 : Memref sig .tc .vmem S128x1024 .bf16).view.WordExact} {hw₄ : (Memref.whole cc0_scratch17 : Memref sig .tc .vmem S128x1024 .bf16).view.WordExact}
    {k : Prog (TpuEff nD τ sig (Elt F) Λ₀ .tc) α} {Q : α → sProp 𝕄} :
    iprop(atRecv m K c 0 ∗ atRecv m K c 2 ∗ credRecv c 0 ∗ credRecv c 2 ∗ zeroR c ∗ owes (c : Thread nD τ) 0 W)
      ⊢ iprop((((∃ W', owes (c : Thread nD τ) 0 W') ∗ semVal (recvCell 0 c) 0 ∗ semVal (recvCell 2 c) 0
              ∗ held c cc0_scratch15 (botK m c) ∗ held c cc0_scratch17 (botV m c))
            -∗ wp frame (wpE (defs₀ (F := F)) 𝒱₀ (c : Thread nD τ) none) Set.univ k Q)
          -∗ wp frame (wpE (defs₀ (F := F)) 𝒱₀ (c : Thread nD τ) none) Set.univ
              (if h : C then (Prog.lift (.waitDma2 s₁ (Memref.whole cc0_scratch10 : Memref sig .tc .vmem S128x1024 .bf16) (Memref.whole cc0_scratch15 : Memref sig .tc .vmem S128x1024 .bf16) hw₁ hw₂) >>= fun _ =>
                Prog.lift (.waitDma2 s₂ (Memref.whole cc0_scratch12 : Memref sig .tc .vmem S128x1024 .bf16) (Memref.whole cc0_scratch17 : Memref sig .tc .vmem S128x1024 .bf16) hw₃ hw₄) >>= fun _ => k) else k) Q) := by
  have key := guard_wait₂ (F := F) (α := α) (c := c) (W := W) m (P := hasR c) hC (q₁ := recvS 0) (q₂ := recvS 2)
    (fun h => (expect_recv m c 0).trans (if_pos h)) (fun h => (expect_recv m c 2).trans (if_pos h))
    (fun h => duties_recv_none m c 0 h) (fun h => duties_recv_none m c 2 h)
    (A₁ := held c cc0_scratch15 (sent0 m (nxt c))) (A₂ := held c cc0_scratch17 (sent2 m (nxt c)))
    (B := iprop(held c cc0_scratch15 (k0_pay8 (F := F)) ∗ held c cc0_scratch17 (k0_pay9 (F := F))))
    (fun h => Entails.of_eq (rest_recv m c 0 h)) (fun h => Entails.of_eq (rest_recv m c 2 h))
    (κ₁ := K (c, ⟨5 + (0 : Fin 4).val, by decide⟩)) (κ₂ := K (c, ⟨5 + (2 : Fin 4).val, by decide⟩)) hs₁ hs₂
    (src₁ := Memref.whole cc0_scratch10) (dst₁ := Memref.whole cc0_scratch15) (src₂ := Memref.whole cc0_scratch12) (dst₂ := Memref.whole cc0_scratch17)
    rfl rfl (hw₁ := hw₁) (hw₂ := hw₂) (hw₃ := hw₃) (hw₄ := hw₄) (k := k) (Q := Q)
  have hi : recvs c 0 = hasR c := rfl
  have hj : recvs c 2 = hasR c := rfl
  unfold atRecv credRecv zeroR botK botV
  iintro ⟨⟨HI₁, Hat₁⟩, ⟨HI₂, Hat₂⟩, Hc₁, Hc₂, HZ, HO⟩ Hk
  iapply key $$ [HI₁ Hat₁ HI₂ Hat₂ Hc₁ Hc₂ HZ HO]
  · isplitl [HI₁]; · iexact HI₁
    isplitl [HI₂]; · iexact HI₂
    isplitl [Hat₁]; · iexact Hat₁
    isplitl [Hat₂]; · iexact Hat₂
    isplitr [HO]
    · by_cases h : hasR c
      · have h₁ : recvs c 0 := h
        have h₂ : recvs c 2 := h
        simp only [if_pos h, if_pos h₁, if_pos h₂]
        isplitl [Hc₁]; · iexact Hc₁
        iexact Hc₂
      · simp only [if_neg h]
        iexact HZ
    iexact HO
  iintro ⟨HO, Hz₁, Hz₂, H⟩
  iapply Hk
  isplitl [HO]; · iexact HO
  isplitl [Hz₁]; · iexact Hz₁
  isplitl [Hz₂]; · iexact Hz₂
  by_cases h : hasR c
  · simp only [if_pos h]; iexact H
  · simp only [if_neg h]; iexact H

theorem guard_backL {C : Prop} [Decidable C] (hC : C ↔ hasL c) {s₁ s₂ : DmaSem sig} (hs₁ : s₁ = sendS 0) (hs₂ : s₂ = sendS 2)
    {hw₁ : (Memref.whole cc0_scratch15 : Memref sig .tc .vmem S128x1024 .bf16).view.WordExact} {hw₂ : (Memref.whole cc0_scratch10 : Memref sig .tc .vmem S128x1024 .bf16).view.WordExact}
    {hw₃ : (Memref.whole cc0_scratch17 : Memref sig .tc .vmem S128x1024 .bf16).view.WordExact} {hw₄ : (Memref.whole cc0_scratch12 : Memref sig .tc .vmem S128x1024 .bf16).view.WordExact}
    {k : Prog (TpuEff nD τ sig (Elt F) Λ₀ .tc) α} {Q : α → sProp 𝕄} :
    iprop(atSend m K c 0 ∗ atSend m K c 2 ∗ sentL m c ∗ owes (c : Thread nD τ) 0 W)
      ⊢ iprop((((∃ W', owes (c : Thread nD τ) 0 W') ∗ semVal (sendCell 0 c) 0 ∗ semVal (sendCell 2 c) 0
              ∗ held c cc0_scratch10 (sent0 m c) ∗ held c cc0_scratch12 (sent2 m c))
            -∗ wp frame (wpE (defs₀ (F := F)) 𝒱₀ (c : Thread nD τ) none) Set.univ k Q)
          -∗ wp frame (wpE (defs₀ (F := F)) 𝒱₀ (c : Thread nD τ) none) Set.univ
              (if h : C then (Prog.lift (.waitDma2 s₁ (Memref.whole cc0_scratch15 : Memref sig .tc .vmem S128x1024 .bf16) (Memref.whole cc0_scratch10 : Memref sig .tc .vmem S128x1024 .bf16) hw₁ hw₂) >>= fun _ =>
                Prog.lift (.waitDma2 s₂ (Memref.whole cc0_scratch17 : Memref sig .tc .vmem S128x1024 .bf16) (Memref.whole cc0_scratch12 : Memref sig .tc .vmem S128x1024 .bf16) hw₃ hw₄) >>= fun _ => k) else k) Q) := by
  have key := guard_wait₂ (F := F) (α := α) (c := c) (W := W) m (P := hasL c) hC (q₁ := sendS 0) (q₂ := sendS 2)
    (fun h => (expect_send m c 0).trans (if_pos h)) (fun h => (expect_send m c 2).trans (if_pos h))
    (fun h => duties_send_none m c 0 h) (fun h => duties_send_none m c 2 h)
    (A₁ := held c cc0_scratch10 (sent0 m c)) (A₂ := held c cc0_scratch12 (sent2 m c))
    (B := iprop(held c cc0_scratch10 (sent0 m c) ∗ held c cc0_scratch12 (sent2 m c)))
    (fun h => Entails.of_eq (rest_send m c 0 h)) (fun h => Entails.of_eq (rest_send m c 2 h))
    (κ₁ := K (c, ⟨1 + (0 : Fin 4).val, by decide⟩)) (κ₂ := K (c, ⟨1 + (2 : Fin 4).val, by decide⟩)) hs₁ hs₂
    (src₁ := Memref.whole cc0_scratch15) (dst₁ := Memref.whole cc0_scratch10) (src₂ := Memref.whole cc0_scratch17) (dst₂ := Memref.whole cc0_scratch12)
    rfl rfl (hw₁ := hw₁) (hw₂ := hw₂) (hw₃ := hw₃) (hw₄ := hw₄) (k := k) (Q := Q)
  unfold atSend sentL
  rw [ite_self] at key
  iintro ⟨⟨HI₁, Hat₁⟩, ⟨HI₂, Hat₂⟩, HS, HO⟩ Hk
  iapply key $$ [HI₁ Hat₁ HI₂ Hat₂ HS HO]
  · isplitl [HI₁]; · iexact HI₁
    isplitl [HI₂]; · iexact HI₂
    isplitl [Hat₁]; · iexact Hat₁
    isplitl [Hat₂]; · iexact Hat₂
    isplitl [HS]; · iexact HS
    iexact HO
  iexact Hk

theorem guard_backR {C : Prop} [Decidable C] (hC : C ↔ hasR c) {s₁ s₂ : DmaSem sig} (hs₁ : s₁ = sendS 1) (hs₂ : s₂ = sendS 3)
    {hw₁ : (Memref.whole cc0_scratch14 : Memref sig .tc .vmem S128x1024 .bf16).view.WordExact} {hw₂ : (Memref.whole cc0_scratch11 : Memref sig .tc .vmem S128x1024 .bf16).view.WordExact}
    {hw₃ : (Memref.whole cc0_scratch16 : Memref sig .tc .vmem S128x1024 .bf16).view.WordExact} {hw₄ : (Memref.whole cc0_scratch13 : Memref sig .tc .vmem S128x1024 .bf16).view.WordExact}
    {k : Prog (TpuEff nD τ sig (Elt F) Λ₀ .tc) α} {Q : α → sProp 𝕄} :
    iprop(atSend m K c 1 ∗ atSend m K c 3 ∗ sentR m c ∗ owes (c : Thread nD τ) 0 W)
      ⊢ iprop((((∃ W', owes (c : Thread nD τ) 0 W') ∗ semVal (sendCell 1 c) 0 ∗ semVal (sendCell 3 c) 0
              ∗ held c cc0_scratch11 (sent1 m c) ∗ held c cc0_scratch13 (sent3 m c))
            -∗ wp frame (wpE (defs₀ (F := F)) 𝒱₀ (c : Thread nD τ) none) Set.univ k Q)
          -∗ wp frame (wpE (defs₀ (F := F)) 𝒱₀ (c : Thread nD τ) none) Set.univ
              (if h : C then (Prog.lift (.waitDma2 s₁ (Memref.whole cc0_scratch14 : Memref sig .tc .vmem S128x1024 .bf16) (Memref.whole cc0_scratch11 : Memref sig .tc .vmem S128x1024 .bf16) hw₁ hw₂) >>= fun _ =>
                Prog.lift (.waitDma2 s₂ (Memref.whole cc0_scratch16 : Memref sig .tc .vmem S128x1024 .bf16) (Memref.whole cc0_scratch13 : Memref sig .tc .vmem S128x1024 .bf16) hw₃ hw₄) >>= fun _ => k) else k) Q) := by
  have key := guard_wait₂ (F := F) (α := α) (c := c) (W := W) m (P := hasR c) hC (q₁ := sendS 1) (q₂ := sendS 3)
    (fun h => (expect_send m c 1).trans (if_pos h)) (fun h => (expect_send m c 3).trans (if_pos h))
    (fun h => duties_send_none m c 1 h) (fun h => duties_send_none m c 3 h)
    (A₁ := held c cc0_scratch11 (sent1 m c)) (A₂ := held c cc0_scratch13 (sent3 m c))
    (B := iprop(held c cc0_scratch11 (sent1 m c) ∗ held c cc0_scratch13 (sent3 m c)))
    (fun h => Entails.of_eq (rest_send m c 1 h)) (fun h => Entails.of_eq (rest_send m c 3 h))
    (κ₁ := K (c, ⟨1 + (1 : Fin 4).val, by decide⟩)) (κ₂ := K (c, ⟨1 + (3 : Fin 4).val, by decide⟩)) hs₁ hs₂
    (src₁ := Memref.whole cc0_scratch14) (dst₁ := Memref.whole cc0_scratch11) (src₂ := Memref.whole cc0_scratch16) (dst₂ := Memref.whole cc0_scratch13)
    rfl rfl (hw₁ := hw₁) (hw₂ := hw₂) (hw₃ := hw₃) (hw₄ := hw₄) (k := k) (Q := Q)
  unfold atSend sentR
  rw [ite_self] at key
  iintro ⟨⟨HI₁, Hat₁⟩, ⟨HI₂, Hat₂⟩, HS, HO⟩ Hk
  iapply key $$ [HI₁ Hat₁ HI₂ Hat₂ HS HO]
  · isplitl [HI₁]; · iexact HI₁
    isplitl [HI₂]; · iexact HI₂
    isplitl [Hat₁]; · iexact Hat₁
    isplitl [Hat₂]; · iexact Hat₂
    isplitl [HS]; · iexact HS
    iexact HO
  iexact Hk

theorem guard_zeroL {C : Prop} [Decidable C] (hC : C ↔ ¬ hasL c)
    {h₁ : (Memref.whole cc0_scratch14 : Memref sig .tc .vmem S128x1024 .bf16).view.LoadsAt _} {h₃ h₄}
    {h₂ : (Memref.whole cc0_scratch16 : Memref sig .tc .vmem S128x1024 .bf16).view.LoadsAt _} {h₅ h₆}
    {k : Prog (TpuEff nD τ sig (Elt F) Λ₀ .tc) α} {Q : α → sProp 𝕄} :
    (keptL (F := F) c) ⊢ iprop((zeroL (F := F) c -∗ wp frame (wpE (defs₀ (F := F)) 𝒱₀ (c : Thread nD τ) none) Set.univ k Q)
          -∗ wp frame (wpE (defs₀ (F := F)) 𝒱₀ (c : Thread nD τ) none) Set.univ
              (if h : C then
                (Prog.lift (.load (Memref.whole cc0_scratch14 : Memref sig .tc .vmem S128x1024 .bf16) (Rect.unit (s := S128x1024) ![0, 0] S128x1024.size inb_S128x1024_S128x1024_0_0).toLoadRect h₁) >>= fun _ =>
                Prog.lift (.store (Memref.whole cc0_scratch14 : Memref sig .tc .vmem S128x1024 .bf16) (Rect.unit (s := S128x1024) ![0, 0] S128x1024.size inb_S128x1024_S128x1024_0_0) (k0_pay6 (F := F)) Finset.univ h₃ h₄) >>= fun _ =>
                Prog.lift (.load (Memref.whole cc0_scratch16 : Memref sig .tc .vmem S128x1024 .bf16) (Rect.unit (s := S128x1024) ![0, 0] S128x1024.size inb_S128x1024_S128x1024_0_0).toLoadRect h₂) >>= fun _ =>
                Prog.lift (.store (Memref.whole cc0_scratch16 : Memref sig .tc .vmem S128x1024 .bf16) (Rect.unit (s := S128x1024) ![0, 0] S128x1024.size inb_S128x1024_S128x1024_0_0) (k0_pay7 (F := F)) Finset.univ h₅ h₆) >>= fun _ => k)
              else k) Q) := by
  unfold keptL zeroL landL
  by_cases h : hasL c
  · rw [dif_neg (fun hc => hC.1 hc h), if_pos h, if_pos h]
    iintro H Hk; iapply Hk; iexact H
  · rw [dif_pos (hC.2 h), if_neg h, if_neg h]
    delta held
    iintro ⟨⟨%f₁, H₁⟩, ⟨%f₂, H₂⟩⟩ Hk
    sl_exec
    iapply Hk
    isplitl [H₁]
    · iapply (pts_congr (whole_writes cc0_scratch14 zeros₂ _ _ _)); iexact H₁
    · iapply (pts_congr (whole_writes cc0_scratch16 zeros₂ _ _ _)); iexact H₂

theorem guard_zeroR {C : Prop} [Decidable C] (hC : C ↔ ¬ hasR c)
    {h₁ : (Memref.whole cc0_scratch15 : Memref sig .tc .vmem S128x1024 .bf16).view.LoadsAt _} {h₃ h₄}
    {h₂ : (Memref.whole cc0_scratch17 : Memref sig .tc .vmem S128x1024 .bf16).view.LoadsAt _} {h₅ h₆}
    {k : Prog (TpuEff nD τ sig (Elt F) Λ₀ .tc) α} {Q : α → sProp 𝕄} :
    (keptR (F := F) c) ⊢ iprop((zeroR (F := F) c -∗ wp frame (wpE (defs₀ (F := F)) 𝒱₀ (c : Thread nD τ) none) Set.univ k Q)
          -∗ wp frame (wpE (defs₀ (F := F)) 𝒱₀ (c : Thread nD τ) none) Set.univ
              (if h : C then
                (Prog.lift (.load (Memref.whole cc0_scratch15 : Memref sig .tc .vmem S128x1024 .bf16) (Rect.unit (s := S128x1024) ![0, 0] S128x1024.size inb_S128x1024_S128x1024_0_0).toLoadRect h₁) >>= fun _ =>
                Prog.lift (.store (Memref.whole cc0_scratch15 : Memref sig .tc .vmem S128x1024 .bf16) (Rect.unit (s := S128x1024) ![0, 0] S128x1024.size inb_S128x1024_S128x1024_0_0) (k0_pay8 (F := F)) Finset.univ h₃ h₄) >>= fun _ =>
                Prog.lift (.load (Memref.whole cc0_scratch17 : Memref sig .tc .vmem S128x1024 .bf16) (Rect.unit (s := S128x1024) ![0, 0] S128x1024.size inb_S128x1024_S128x1024_0_0).toLoadRect h₂) >>= fun _ =>
                Prog.lift (.store (Memref.whole cc0_scratch17 : Memref sig .tc .vmem S128x1024 .bf16) (Rect.unit (s := S128x1024) ![0, 0] S128x1024.size inb_S128x1024_S128x1024_0_0) (k0_pay9 (F := F)) Finset.univ h₅ h₆) >>= fun _ => k)
              else k) Q) := by
  unfold keptR zeroR landR
  by_cases h : hasR c
  · rw [dif_neg (fun hc => hC.1 hc h), if_pos h, if_pos h]
    iintro H Hk; iapply Hk; iexact H
  · rw [dif_pos (hC.2 h), if_neg h, if_neg h]
    delta held
    iintro ⟨⟨%f₁, H₁⟩, ⟨%f₂, H₂⟩⟩ Hk
    sl_exec
    iapply Hk
    isplitl [H₁]
    · iapply (pts_congr (whole_writes cc0_scratch15 zeros₂ _ _ _)); iexact H₁
    · iapply (pts_congr (whole_writes cc0_scratch17 zeros₂ _ _ _)); iexact H₂

/-- The two sends to the left, as the kernel spells them. -/
theorem step_sendL (c : Dev nD) (X : Ow) (W : Waits sig Unit) {α : Type} {k : Prog (TpuEff nD τ sig (Elt F) Λ₀ .tc) α} {Q : α → sProp 𝕄} :
    iprop(ticket m K c (prv c) 0 ∗ ticket m K c (prv c) 2 ∗ held c cc0_scratch10 (sent0 m c) ∗ held c cc0_scratch12 (sent2 m c) ∗ gotL c
        ∗ owes (c : Thread nD τ) (X + owSendL c) W)
      ⊢ iprop(((owes (c : Thread nD τ) X W ∗ sentL m c) -∗ wp frame (wpE (defs₀ (F := F)) 𝒱₀ (c : Thread nD τ) none) Set.univ k Q)
     -∗ wp frame (wpE (defs₀ (F := F)) 𝒱₀ (c : Thread nD τ) none) Set.univ
              (if k0_h3 : k0_cond3 c = 1#1 then do
    let v829 : DmaSems sig S1 := cc0_scratch20.slice (Rect.unit (s := S4) ![0] S1.size inb_S4_S1_0)
    let v830 : DmaSems sig S_ := v829.squeeze S_ squeezes_S1_S_
    let v831 : DmaSems sig S1 := cc0_scratch21.slice (Rect.unit (s := S4) ![0] S1.size inb_S4_S1_0)
    let v832 : DmaSems sig S_ := v831.squeeze S_ squeezes_S1_S_
    Prog.lift (.enqueueDma (Memref.whole cc0_scratch10 : Memref sig .tc .vmem S128x1024 .bf16) (.remote (Dev.tc (⟨k0_dev3 c, k0_dev3_lt c k0_h3⟩ : Dev nD)) (Memref.whole cc0_scratch15 : Memref sig .tc .vmem S128x1024 .bf16) (.dma v830.sem)) (.dma v832.sem) (Memref.isWhole_whole cc0_scratch10).wordExact (Memref.isWhole_whole cc0_scratch15).wordExact ⟨⟨rfl, Or.inl rfl⟩, trivial⟩)
    let v835 : DmaSems sig S1 := cc0_scratch20.slice (Rect.unit (s := S4) ![2] S1.size inb_S4_S1_2)
    let v836 : DmaSems sig S_ := v835.squeeze S_ squeezes_S1_S_
    let v837 : DmaSems sig S1 := cc0_scratch21.slice (Rect.unit (s := S4) ![2] S1.size inb_S4_S1_2)
    let v838 : DmaSems sig S_ := v837.squeeze S_ squeezes_S1_S_
    Prog.lift (.enqueueDma (Memref.whole cc0_scratch12 : Memref sig .tc .vmem S128x1024 .bf16) (.remote (Dev.tc (⟨k0_dev4 c, k0_dev4_lt c k0_h3⟩ : Dev nD)) (Memref.whole cc0_scratch17 : Memref sig .tc .vmem S128x1024 .bf16) (.dma v836.sem)) (.dma v838.sem) (Memref.isWhole_whole cc0_scratch12).wordExact (Memref.isWhole_whole cc0_scratch17).wordExact ⟨⟨rfl, Or.inl rfl⟩, trivial⟩)
    k
    else k) Q) := by
  have hs₁ : ((cc0_scratch20.slice (Rect.unit (s := S4) ![0] S1.size inb_S4_S1_0)).squeeze S_ squeezes_S1_S_).sem = sendS 0 := rfl
  have hs₂ : ((cc0_scratch21.slice (Rect.unit (s := S4) ![0] S1.size inb_S4_S1_0)).squeeze S_ squeezes_S1_S_).sem = recvS 0 := rfl
  have hs₃ : ((cc0_scratch20.slice (Rect.unit (s := S4) ![2] S1.size inb_S4_S1_2)).squeeze S_ squeezes_S1_S_).sem = sendS 2 := rfl
  have hs₄ : ((cc0_scratch21.slice (Rect.unit (s := S4) ![2] S1.size inb_S4_S1_2)).squeeze S_ squeezes_S1_S_).sem = recvS 2 := rfl
  exact guard_sendL m K (n₁ := fun h => ⟨k0_dev3 c, k0_dev3_lt c h⟩) (n₂ := fun h => ⟨k0_dev4 c, k0_dev4_lt c h⟩) (dev3_eq c) (dev4_eq c) hs₁ hs₂ hs₃ hs₄ (hc₁ := rfl) (hc₂ := rfl)
    (hw₁ := (Memref.isWhole_whole _).wordExact) (hw₂ := (Memref.isWhole_whole _).wordExact) (hw₃ := (Memref.isWhole_whole _).wordExact)
    (hw₄ := (Memref.isWhole_whole _).wordExact) (ht₁ := fun h => ⟨⟨rfl, Or.inl rfl⟩, trivial⟩) (ht₂ := fun h => ⟨⟨rfl, Or.inl rfl⟩, trivial⟩)
    (X := X) (W := W) (k := k) (Q := Q)

/-- The two sends to the right, as the kernel spells them. -/
theorem step_sendR (c : Dev nD) (X : Ow) (W : Waits sig Unit) {α : Type} {k : Prog (TpuEff nD τ sig (Elt F) Λ₀ .tc) α} {Q : α → sProp 𝕄} :
    iprop(ticket m K c (nxt c) 1 ∗ ticket m K c (nxt c) 3 ∗ held c cc0_scratch11 (sent1 m c) ∗ held c cc0_scratch13 (sent3 m c) ∗ gotR c
        ∗ owes (c : Thread nD τ) (X + owSendR c) W)
      ⊢ iprop(((owes (c : Thread nD τ) X W ∗ sentR m c) -∗ wp frame (wpE (defs₀ (F := F)) 𝒱₀ (c : Thread nD τ) none) Set.univ k Q)
     -∗ wp frame (wpE (defs₀ (F := F)) 𝒱₀ (c : Thread nD τ) none) Set.univ
              (if k0_h4 : k0_cond4 c = 1#1 then do
    let v829 : DmaSems sig S1 := cc0_scratch20.slice (Rect.unit (s := S4) ![1] S1.size inb_S4_S1_1)
    let v830 : DmaSems sig S_ := v829.squeeze S_ squeezes_S1_S_
    let v831 : DmaSems sig S1 := cc0_scratch21.slice (Rect.unit (s := S4) ![1] S1.size inb_S4_S1_1)
    let v832 : DmaSems sig S_ := v831.squeeze S_ squeezes_S1_S_
    Prog.lift (.enqueueDma (Memref.whole cc0_scratch11 : Memref sig .tc .vmem S128x1024 .bf16) (.remote (Dev.tc (⟨k0_dev5 c, k0_dev5_lt c k0_h4⟩ : Dev nD)) (Memref.whole cc0_scratch14 : Memref sig .tc .vmem S128x1024 .bf16) (.dma v830.sem)) (.dma v832.sem) (Memref.isWhole_whole cc0_scratch11).wordExact (Memref.isWhole_whole cc0_scratch14).wordExact ⟨⟨rfl, Or.inl rfl⟩, trivial⟩)
    let v835 : DmaSems sig S1 := cc0_scratch20.slice (Rect.unit (s := S4) ![3] S1.size inb_S4_S1_3)
    let v836 : DmaSems sig S_ := v835.squeeze S_ squeezes_S1_S_
    let v837 : DmaSems sig S1 := cc0_scratch21.slice (Rect.unit (s := S4) ![3] S1.size inb_S4_S1_3)
    let v838 : DmaSems sig S_ := v837.squeeze S_ squeezes_S1_S_
    Prog.lift (.enqueueDma (Memref.whole cc0_scratch13 : Memref sig .tc .vmem S128x1024 .bf16) (.remote (Dev.tc (⟨k0_dev6 c, k0_dev6_lt c k0_h4⟩ : Dev nD)) (Memref.whole cc0_scratch16 : Memref sig .tc .vmem S128x1024 .bf16) (.dma v836.sem)) (.dma v838.sem) (Memref.isWhole_whole cc0_scratch13).wordExact (Memref.isWhole_whole cc0_scratch16).wordExact ⟨⟨rfl, Or.inl rfl⟩, trivial⟩)
    k
    else k) Q) := by
  have hs₁ : ((cc0_scratch20.slice (Rect.unit (s := S4) ![1] S1.size inb_S4_S1_1)).squeeze S_ squeezes_S1_S_).sem = sendS 1 := rfl
  have hs₂ : ((cc0_scratch21.slice (Rect.unit (s := S4) ![1] S1.size inb_S4_S1_1)).squeeze S_ squeezes_S1_S_).sem = recvS 1 := rfl
  have hs₃ : ((cc0_scratch20.slice (Rect.unit (s := S4) ![3] S1.size inb_S4_S1_3)).squeeze S_ squeezes_S1_S_).sem = sendS 3 := rfl
  have hs₄ : ((cc0_scratch21.slice (Rect.unit (s := S4) ![3] S1.size inb_S4_S1_3)).squeeze S_ squeezes_S1_S_).sem = recvS 3 := rfl
  exact guard_sendR m K (n₁ := fun h => ⟨k0_dev5 c, k0_dev5_lt c h⟩) (n₂ := fun h => ⟨k0_dev6 c, k0_dev6_lt c h⟩) (dev5_eq c) (dev6_eq c) hs₁ hs₂ hs₃ hs₄ (hc₁ := rfl) (hc₂ := rfl)
    (hw₁ := (Memref.isWhole_whole _).wordExact) (hw₂ := (Memref.isWhole_whole _).wordExact) (hw₃ := (Memref.isWhole_whole _).wordExact)
    (hw₄ := (Memref.isWhole_whole _).wordExact) (ht₁ := fun h => ⟨⟨rfl, Or.inl rfl⟩, trivial⟩) (ht₂ := fun h => ⟨⟨rfl, Or.inl rfl⟩, trivial⟩)
    (X := X) (W := W) (k := k) (Q := Q)

/-- The two waits for what comes from the left, as the kernel spells them. -/
theorem step_recvL (c : Dev nD) (W : Waits sig Unit) {C : Prop} [Decidable C] (hC : C ↔ hasL c) {α : Type}
    {k : Prog (TpuEff nD τ sig (Elt F) Λ₀ .tc) α} {Q : α → sProp 𝕄} :
    iprop(atRecv m K c 1 ∗ atRecv m K c 3 ∗ credRecv c 1 ∗ credRecv c 3 ∗ zeroL c ∗ owes (c : Thread nD τ) 0 W)
      ⊢ iprop((((∃ W', owes (c : Thread nD τ) 0 W') ∗ semVal (recvCell 1 c) 0 ∗ semVal (recvCell 3 c) 0
              ∗ held c cc0_scratch14 (topK m c) ∗ held c cc0_scratch16 (topV m c))
            -∗ wp frame (wpE (defs₀ (F := F)) 𝒱₀ (c : Thread nD τ) none) Set.univ k Q)
     -∗ wp frame (wpE (defs₀ (F := F)) 𝒱₀ (c : Thread nD τ) none) Set.univ
              (if k0_h7 : C then do
    let v829 : DmaSems sig S1 := cc0_scratch21.slice (Rect.unit (s := S4) ![1] S1.size inb_S4_S1_1)
    let v830 : DmaSems sig S_ := v829.squeeze S_ squeezes_S1_S_
    Prog.lift (.waitDma2 v830.sem (Memref.whole cc0_scratch11 : Memref sig .tc .vmem S128x1024 .bf16) (Memref.whole cc0_scratch14 : Memref sig .tc .vmem S128x1024 .bf16) (Memref.isWhole_whole cc0_scratch11).wordExact (Memref.isWhole_whole cc0_scratch14).wordExact)
    let v833 : DmaSems sig S1 := cc0_scratch21.slice (Rect.unit (s := S4) ![3] S1.size inb_S4_S1_3)
    let v834 : DmaSems sig S_ := v833.squeeze S_ squeezes_S1_S_
    Prog.lift (.waitDma2 v834.sem (Memref.whole cc0_scratch13 : Memref sig .tc .vmem S128x1024 .bf16) (Memref.whole cc0_scratch16 : Memref sig .tc .vmem S128x1024 .bf16) (Memref.isWhole_whole cc0_scratch13).wordExact (Memref.isWhole_whole cc0_scratch16).wordExact)
    k
    else k) Q) := by
  have hs₁ : ((cc0_scratch21.slice (Rect.unit (s := S4) ![1] S1.size inb_S4_S1_1)).squeeze S_ squeezes_S1_S_).sem = recvS 1 := rfl
  have hs₂ : ((cc0_scratch21.slice (Rect.unit (s := S4) ![3] S1.size inb_S4_S1_3)).squeeze S_ squeezes_S1_S_).sem = recvS 3 := rfl
  exact guard_recvL m K hC hs₁ hs₂
    (hw₁ := (Memref.isWhole_whole _).wordExact) (hw₂ := (Memref.isWhole_whole _).wordExact) (hw₃ := (Memref.isWhole_whole _).wordExact)
    (hw₄ := (Memref.isWhole_whole _).wordExact) (W := W) (k := k) (Q := Q)

/-- The two waits for what comes from the right, as the kernel spells them. -/
theorem step_recvR (c : Dev nD) (W : Waits sig Unit) {C : Prop} [Decidable C] (hC : C ↔ hasR c) {α : Type}
    {k : Prog (TpuEff nD τ sig (Elt F) Λ₀ .tc) α} {Q : α → sProp 𝕄} :
    iprop(atRecv m K c 0 ∗ atRecv m K c 2 ∗ credRecv c 0 ∗ credRecv c 2 ∗ zeroR c ∗ owes (c : Thread nD τ) 0 W)
      ⊢ iprop((((∃ W', owes (c : Thread nD τ) 0 W') ∗ semVal (recvCell 0 c) 0 ∗ semVal (recvCell 2 c) 0
              ∗ held c cc0_scratch15 (botK m c) ∗ held c cc0_scratch17 (botV m c))
            -∗ wp frame (wpE (defs₀ (F := F)) 𝒱₀ (c : Thread nD τ) none) Set.univ k Q)
     -∗ wp frame (wpE (defs₀ (F := F)) 𝒱₀ (c : Thread nD τ) none) Set.univ
              (if k0_h8 : C then do
    let v829 : DmaSems sig S1 := cc0_scratch21.slice (Rect.unit (s := S4) ![0] S1.size inb_S4_S1_0)
    let v830 : DmaSems sig S_ := v829.squeeze S_ squeezes_S1_S_
    Prog.lift (.waitDma2 v830.sem (Memref.whole cc0_scratch10 : Memref sig .tc .vmem S128x1024 .bf16) (Memref.whole cc0_scratch15 : Memref sig .tc .vmem S128x1024 .bf16) (Memref.isWhole_whole cc0_scratch10).wordExact (Memref.isWhole_whole cc0_scratch15).wordExact)
    let v833 : DmaSems sig S1 := cc0_scratch21.slice (Rect.unit (s := S4) ![2] S1.size inb_S4_S1_2)
    let v834 : DmaSems sig S_ := v833.squeeze S_ squeezes_S1_S_
    Prog.lift (.waitDma2 v834.sem (Memref.whole cc0_scratch12 : Memref sig .tc .vmem S128x1024 .bf16) (Memref.whole cc0_scratch17 : Memref sig .tc .vmem S128x1024 .bf16) (Memref.isWhole_whole cc0_scratch12).wordExact (Memref.isWhole_whole cc0_scratch17).wordExact)
    k
    else k) Q) := by
  have hs₁ : ((cc0_scratch21.slice (Rect.unit (s := S4) ![0] S1.size inb_S4_S1_0)).squeeze S_ squeezes_S1_S_).sem = recvS 0 := rfl
  have hs₂ : ((cc0_scratch21.slice (Rect.unit (s := S4) ![2] S1.size inb_S4_S1_2)).squeeze S_ squeezes_S1_S_).sem = recvS 2 := rfl
  exact guard_recvR m K hC hs₁ hs₂
    (hw₁ := (Memref.isWhole_whole _).wordExact) (hw₂ := (Memref.isWhole_whole _).wordExact) (hw₃ := (Memref.isWhole_whole _).wordExact)
    (hw₄ := (Memref.isWhole_whole _).wordExact) (W := W) (k := k) (Q := Q)

/-- The two waits for what went to the left, as the kernel spells them. -/
theorem step_backL (c : Dev nD) (W : Waits sig Unit) {C : Prop} [Decidable C] (hC : C ↔ hasL c) {α : Type}
    {k : Prog (TpuEff nD τ sig (Elt F) Λ₀ .tc) α} {Q : α → sProp 𝕄} :
    iprop(atSend m K c 0 ∗ atSend m K c 2 ∗ sentL m c ∗ owes (c : Thread nD τ) 0 W)
      ⊢ iprop((((∃ W', owes (c : Thread nD τ) 0 W') ∗ semVal (sendCell 0 c) 0 ∗ semVal (sendCell 2 c) 0
              ∗ held c cc0_scratch10 (sent0 m c) ∗ held c cc0_scratch12 (sent2 m c))
            -∗ wp frame (wpE (defs₀ (F := F)) 𝒱₀ (c : Thread nD τ) none) Set.univ k Q)
     -∗ wp frame (wpE (defs₀ (F := F)) 𝒱₀ (c : Thread nD τ) none) Set.univ
              (if k0_h9 : C then do
    let v827 : DmaSems sig S1 := cc0_scratch20.slice (Rect.unit (s := S4) ![0] S1.size inb_S4_S1_0)
    let v828 : DmaSems sig S_ := v827.squeeze S_ squeezes_S1_S_
    Prog.lift (.waitDma2 v828.sem (Memref.whole cc0_scratch15 : Memref sig .tc .vmem S128x1024 .bf16) (Memref.whole cc0_scratch10 : Memref sig .tc .vmem S128x1024 .bf16) (Memref.isWhole_whole cc0_scratch15).wordExact (Memref.isWhole_whole cc0_scratch10).wordExact)
    let v829 : DmaSems sig S1 := cc0_scratch20.slice (Rect.unit (s := S4) ![2] S1.size inb_S4_S1_2)
    let v830 : DmaSems sig S_ := v829.squeeze S_ squeezes_S1_S_
    Prog.lift (.waitDma2 v830.sem (Memref.whole cc0_scratch17 : Memref sig .tc .vmem S128x1024 .bf16) (Memref.whole cc0_scratch12 : Memref sig .tc .vmem S128x1024 .bf16) (Memref.isWhole_whole cc0_scratch17).wordExact (Memref.isWhole_whole cc0_scratch12).wordExact)
    k
    else k) Q) := by
  have hs₁ : ((cc0_scratch20.slice (Rect.unit (s := S4) ![0] S1.size inb_S4_S1_0)).squeeze S_ squeezes_S1_S_).sem = sendS 0 := rfl
  have hs₂ : ((cc0_scratch20.slice (Rect.unit (s := S4) ![2] S1.size inb_S4_S1_2)).squeeze S_ squeezes_S1_S_).sem = sendS 2 := rfl
  exact guard_backL m K hC hs₁ hs₂
    (hw₁ := (Memref.isWhole_whole _).wordExact) (hw₂ := (Memref.isWhole_whole _).wordExact) (hw₃ := (Memref.isWhole_whole _).wordExact)
    (hw₄ := (Memref.isWhole_whole _).wordExact) (W := W) (k := k) (Q := Q)

/-- The two waits for what went to the right, as the kernel spells them. -/
theorem step_backR (c : Dev nD) (W : Waits sig Unit) {C : Prop} [Decidable C] (hC : C ↔ hasR c) {α : Type}
    {k : Prog (TpuEff nD τ sig (Elt F) Λ₀ .tc) α} {Q : α → sProp 𝕄} :
    iprop(atSend m K c 1 ∗ atSend m K c 3 ∗ sentR m c ∗ owes (c : Thread nD τ) 0 W)
      ⊢ iprop((((∃ W', owes (c : Thread nD τ) 0 W') ∗ semVal (sendCell 1 c) 0 ∗ semVal (sendCell 3 c) 0
              ∗ held c cc0_scratch11 (sent1 m c) ∗ held c cc0_scratch13 (sent3 m c))
            -∗ wp frame (wpE (defs₀ (F := F)) 𝒱₀ (c : Thread nD τ) none) Set.univ k Q)
     -∗ wp frame (wpE (defs₀ (F := F)) 𝒱₀ (c : Thread nD τ) none) Set.univ
              (if k0_h10 : C then do
    let v827 : DmaSems sig S1 := cc0_scratch20.slice (Rect.unit (s := S4) ![1] S1.size inb_S4_S1_1)
    let v828 : DmaSems sig S_ := v827.squeeze S_ squeezes_S1_S_
    Prog.lift (.waitDma2 v828.sem (Memref.whole cc0_scratch14 : Memref sig .tc .vmem S128x1024 .bf16) (Memref.whole cc0_scratch11 : Memref sig .tc .vmem S128x1024 .bf16) (Memref.isWhole_whole cc0_scratch14).wordExact (Memref.isWhole_whole cc0_scratch11).wordExact)
    let v829 : DmaSems sig S1 := cc0_scratch20.slice (Rect.unit (s := S4) ![3] S1.size inb_S4_S1_3)
    let v830 : DmaSems sig S_ := v829.squeeze S_ squeezes_S1_S_
    Prog.lift (.waitDma2 v830.sem (Memref.whole cc0_scratch16 : Memref sig .tc .vmem S128x1024 .bf16) (Memref.whole cc0_scratch13 : Memref sig .tc .vmem S128x1024 .bf16) (Memref.isWhole_whole cc0_scratch16).wordExact (Memref.isWhole_whole cc0_scratch13).wordExact)
    k
    else k) Q) := by
  have hs₁ : ((cc0_scratch20.slice (Rect.unit (s := S4) ![1] S1.size inb_S4_S1_1)).squeeze S_ squeezes_S1_S_).sem = sendS 1 := rfl
  have hs₂ : ((cc0_scratch20.slice (Rect.unit (s := S4) ![3] S1.size inb_S4_S1_3)).squeeze S_ squeezes_S1_S_).sem = sendS 3 := rfl
  exact guard_backR m K hC hs₁ hs₂
    (hw₁ := (Memref.isWhole_whole _).wordExact) (hw₂ := (Memref.isWhole_whole _).wordExact) (hw₃ := (Memref.isWhole_whole _).wordExact)
    (hw₄ := (Memref.isWhole_whole _).wordExact) (W := W) (k := k) (Q := Q)

end Cert.Halo
-- ==== Proof.Value.lean ====
module

public import proofs.«01_k».proof.Proof.Guards
public import Idealize.ShloMosaic.Lib.Pointwise

/-!
# The value a device computes

A device's 1024 result rows are computed in four blocks of 256. Block `b` attends over a window of 512 rows of K and V that
starts 128 rows above the block; the window of block 0 begins with the 128 rows received from the left neighbour, the window of
block 3 ends with the 128 rows received from the right one. `headOf` is one head of one block, `blockOf` a block's eight heads
and the output projection, `blk` the block of a device, `OutOK` the whole result.
-/

@[expose] public section

noncomputable section

namespace Cert.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
local notation "ownSems₀" => Pipeline.ownSems0 (Ix := Unit) (Name := ℕ) (U := UU) (Lvl := ℕ) (Val := Elt F) (τ := τ)

variable (m : (ℓ : Loc nD τ sig) → Buf (Elt F) ℓ)

/-! ## One block -/

/-- The unnormalised weights of one head: masked exponentials of the scaled scores. -/
def weightsOf (M : IVec S256x512 1) (q : FVec F S256x128 .bf16) (k : FVec F S512x128 .bf16) : FVec F S256x512 .f32 :=
  select M (exp (mulf (matmul dot_S256x128_S512x128_S256x512_1_1_0_0_n_n none q k (constant S256x512 .f32 0x00000000#32))
    (broadcast S256x512 (Scalar.ofBits .f32 0x3DB504F3#32)))) (broadcast S256x512 (Scalar.ofBits .f32 0x00000000#32))

/-- One head of one block: the weighted sum of the values over the sum of the weights. -/
def headOf (M : IVec S256x512 1) (q : FVec F S256x128 .bf16) (k v : FVec F S512x128 .bf16) : FVec F S256x128 .f32 :=
  divf (matmul dot_S256x512_S512x128_S256x128_1_0_0_1_n_n none (truncf .bf16 (weightsOf M q k) bitsLt_bf16_f32) v (constant S256x128 .f32 0x00000000#32))
    (broadcastTo S256x128 (shapeCast S256x1 (multiReduction .add [1] S256 (weightsOf M q k) 0x00000000#32 reduces_S256x512_S256 (.inl rfl) rfl)
      shapeCasts_S256_S256x1) broadcasts_S256x1_S256x128)

theorem slices_q (o h : ℕ) (ho : o + 256 ≤ 1024) (hh : h + 128 ≤ 1024) : S1024x1024.Slices ![o, h] S256x128 :=
  ⟨rfl, fun a => match a with | ⟨0, _⟩ => ho | ⟨1, _⟩ => hh⟩
theorem slices_kv (h : ℕ) (hh : h + 128 ≤ 1024) : S512x1024.Slices ![0, h] S512x128 :=
  ⟨rfl, fun a => match a with | ⟨0, _⟩ => le_refl 512 | ⟨1, _⟩ => hh⟩

/-- The head whose columns start at `h`, of the block whose rows start at `o`. -/
def headAt (o h : ℕ) (ho : o + 256 ≤ 1024) (hh : h + 128 ≤ 1024) (M : IVec S256x512 1) (q : FVec F S1024x1024 .bf16) (k v : FVec F S512x1024 .bf16) :
    FVec F S256x128 .f32 :=
  headOf M (extractStridedSlice S256x128 ![o, h] q (slices_q o h ho hh)) (extractStridedSlice S512x128 ![0, h] k (slices_kv h hh))
    (extractStridedSlice S512x128 ![0, h] v (slices_kv h hh))

/-- The eight heads side by side. -/
def ctxOf (o : ℕ) (ho : o + 256 ≤ 1024) (M : IVec S256x512 1) (q : FVec F S1024x1024 .bf16) (k v : FVec F S512x1024 .bf16) : FVec F S256x1024 .f32 :=
  concatenate S256x1024 1 [⟨S256x128, headAt o 0 ho (by decide) M q k v⟩, ⟨S256x128, headAt o 128 ho (by decide) M q k v⟩, ⟨S256x128, headAt o 256 ho (by decide) M q k v⟩, ⟨S256x128, headAt o 384 ho (by decide) M q k v⟩, ⟨S256x128, headAt o 512 ho (by decide) M q k v⟩, ⟨S256x128, headAt o 640 ho (by decide) M q k v⟩, ⟨S256x128, headAt o 768 ho (by decide) M q k v⟩, ⟨S256x128, headAt o 896 ho (by decide) M q k v⟩]
    concatenates_S256x128_S256x128_S256x128_S256x128_S256x128_S256x128_S256x128_S256x128_S256x1024_d1

/-- A block of the result. -/
def blockOf (o : ℕ) (ho : o + 256 ≤ 1024) (M : IVec S256x512 1) (q : FVec F S1024x1024 .bf16) (k v : FVec F S512x1024 .bf16) (wo : FVec F S1024x1024 .f32) :
    FVec F S256x1024 .f32 :=
  shapeCast S256x1024 (matmul dot_S256x1024_S1024x1024_S256x1024_1_0_0_1_n_n none (ctxOf o ho M q k v) wo (constant S256x1024 .f32 0x00000000#32))
    shapeCasts_S256x1024_S256x1024

/-! ## The operands -/

/-- A device's rows of x, K, V and the output weights. -/
def xMat (c : Dev nD) : FVec F S1024x1024 .f32 := fun y => (m ((c : Thread nD τ).loc main_arg0) : FVec F S1x1024x1024 .f32) (ix3 0 (y 0) (y 1))
def kMat (c : Dev nD) : FVec F S1024x8x128 .f32 := fun y => (m ((c : Thread nD τ).loc main_arg2) : FVec F S1x1024x8x128 .f32) (ix4 0 (y 0) (y 1) (y 2))
def vMat (c : Dev nD) : FVec F S1024x8x128 .f32 := fun y => (m ((c : Thread nD τ).loc main_arg3) : FVec F S1x1024x8x128 .f32) (ix4 0 (y 0) (y 1) (y 2))

/-- The device's position as a word. -/
def posW (c : Dev nD) : BitVec 32 := Scalar.remsi (Scalar.divsi (BitVec.ofNat 32 c.val) 1#32) 8#32
def colW : IVec S256x512 32 := iota .tc S256x512 32 [1] iota_S256x512_d1_w32

/-- The projected queries. -/
def qOf (c : Dev nD) : FVec F S1024x1024 .bf16 := k0_pay10 (xMat m c) (m ((c : Thread nD τ).loc main_arg1))

/-- Rows `o … o + n` of a 1024-row array of heads. -/
def rowsAt (n o : ℕ) (inb : ∀ a, (![o, 0, 0] : Fin 3 → ℕ) a + (⟨3, ![n, 8, 128]⟩ : Shape).size a ≤ S1024x8x128.size a) (f : FVec F S1024x8x128 .f32) :
    FVec F ⟨3, ![n, 8, 128]⟩ .f32 := fun j => f ((Rect.unit (s := S1024x8x128) ![o, 0, 0] (⟨3, ![n, 8, 128]⟩ : Shape).size inb).emb j)

def kWin0 (c : Dev nD) : FVec F S512x1024 .bf16 := k0_pay39 (rowsAt 384 0 inb_S1024x8x128_S384x8x128_0_0_0 (kMat m c)) (topK m c)
def vWin0 (c : Dev nD) : FVec F S512x1024 .bf16 := k0_pay40 (rowsAt 384 0 inb_S1024x8x128_S384x8x128_0_0_0 (vMat m c)) (topV m c)
def kWin1 (c : Dev nD) : FVec F S512x1024 .bf16 := k0_pay13 (rowsAt 512 128 inb_S1024x8x128_S512x8x128_128_0_0 (kMat m c))
def vWin1 (c : Dev nD) : FVec F S512x1024 .bf16 := k0_pay14 (rowsAt 512 128 inb_S1024x8x128_S512x8x128_128_0_0 (vMat m c))
def kWin2 (c : Dev nD) : FVec F S512x1024 .bf16 := k0_pay27 (rowsAt 512 384 inb_S1024x8x128_S512x8x128_384_0_0 (kMat m c))
def vWin2 (c : Dev nD) : FVec F S512x1024 .bf16 := k0_pay28 (rowsAt 512 384 inb_S1024x8x128_S512x8x128_384_0_0 (vMat m c))
def kWin3 (c : Dev nD) : FVec F S512x1024 .bf16 := k0_pay53 (k0_pay52 (rowsAt 384 640 inb_S1024x8x128_S384x8x128_640_0_0 (kMat m c))) (botK m c)
def vWin3 (c : Dev nD) : FVec F S512x1024 .bf16 := k0_pay54 (rowsAt 384 640 inb_S1024x8x128_S384x8x128_640_0_0 (vMat m c)) (botV m c)

/-- The masks of the four blocks. -/
def mask0 (c : Dev nD) : IVec S256x512 1 := k0_pay38 (posW c) colW k0_pay11
def mask1 (c : Dev nD) : IVec S256x512 1 := k0_pay12 (posW c) colW k0_pay11
def mask2 (c : Dev nD) : IVec S256x512 1 := k0_pay26 (k0_pay24 (posW c) colW k0_pay11) (k0_pay25 (posW c) colW)
def mask3 (c : Dev nD) : IVec S256x512 1 := k0_pay51 (posW c) colW k0_pay11

/-- The four blocks of a device's result. -/
def blk0 (c : Dev nD) : FVec F S256x1024 .f32 := blockOf 0 (by decide) (mask0 c) (qOf m c) (kWin0 m c) (vWin0 m c) (m ((c : Thread nD τ).loc main_arg4))
def blk1 (c : Dev nD) : FVec F S256x1024 .f32 := blockOf 256 (by decide) (mask1 c) (qOf m c) (kWin1 m c) (vWin1 m c) (m ((c : Thread nD τ).loc main_arg4))
def blk2 (c : Dev nD) : FVec F S256x1024 .f32 := blockOf 512 (by decide) (mask2 c) (qOf m c) (kWin2 m c) (vWin2 m c) (m ((c : Thread nD τ).loc main_arg4))
def blk3 (c : Dev nD) : FVec F S256x1024 .f32 := blockOf 768 (by decide) (mask3 c) (qOf m c) (kWin3 m c) (vWin3 m c) (m ((c : Thread nD τ).loc main_arg4))

/-- Rows `o … o + 256` of the result hold `w`. -/
def RowsAre (o : ℕ) (ho : o + 256 ≤ 1024) (w : FVec F S256x1024 .f32) (g : FVec F S1x1024x1024 .f32) : Prop :=
  ∀ (i : Fin 256) (j : Fin 1024), g (ix3 0 ⟨o + i.val, by omega⟩ j) = w (ix2 i j)

/-- What the result array holds at the end. -/
def OutOK (c : Dev nD) (g : Buf (Elt F) ((c : Thread nD τ).loc main_v1)) : Prop :=
  RowsAre 0 (by decide) (blk0 m c) g ∧ RowsAre 256 (by decide) (blk1 m c) g ∧ RowsAre 512 (by decide) (blk2 m c) g ∧ RowsAre 768 (by decide) (blk3 m c) g

/-! ## The computed terms are these -/

theorem pays1 (M : IVec S256x512 1) (q : FVec F S1024x1024 .bf16) (k v : Vec F S512x8x128 .f32) (wo : FVec F S1024x1024 .f32) :
    k0_pay23 (k0_pay22 q M (k0_pay13 k) (k0_pay14 v) (k0_pay15 q M k v) (k0_pay16 q M k v)
      (k0_pay18 M (k0_pay14 v) (k0_pay17 q k) (FloatOps.ofBits .f32 0#32))
      (k0_pay19 q M (k0_pay13 k) (k0_pay14 v)) (k0_pay20 q M (k0_pay13 k) (k0_pay14 v)) (k0_pay21 q (k0_pay13 k)) (FloatOps.ofBits .f32 0#32) wo)
      = blockOf 256 (by decide) M q (k0_pay13 k) (k0_pay14 v) wo := rfl

theorem pays2 (A B : IVec S256x512 1) (q : FVec F S1024x1024 .bf16) (k v : Vec F S512x8x128 .f32) (wo : FVec F S1024x1024 .f32) :
    k0_pay37 (k0_pay36 q (k0_pay26 A B) (k0_pay27 k) (k0_pay28 v) (k0_pay29 q A B k v) (k0_pay30 q A B k v)
      (k0_pay32 (k0_pay26 A B) (k0_pay28 v) (k0_pay31 q k))
      (k0_pay33 q (k0_pay26 A B) (k0_pay27 k) (k0_pay28 v)) (k0_pay34 q (k0_pay26 A B) (k0_pay27 k) (k0_pay28 v)) (k0_pay35 q (k0_pay27 k)) wo)
      = blockOf 512 (by decide) (k0_pay26 A B) q (k0_pay27 k) (k0_pay28 v) wo := rfl

theorem pays0 (M : IVec S256x512 1) (q : FVec F S1024x1024 .bf16) (k v : FVec F S512x1024 .bf16) (wo : FVec F S1024x1024 .f32) :
    k0_pay50 q M k v (k0_pay42 M k v (k0_pay41 q)) (k0_pay43 q M k v) (k0_pay44 q M k v) (k0_pay46 M k v (k0_pay45 q)) (k0_pay47 q M k v)
      (k0_pay48 q M k v) (k0_pay49 q) wo
      = blockOf 0 (by decide) M q k v wo := rfl

theorem pays3 (M : IVec S256x512 1) (q : FVec F S1024x1024 .bf16) (k : FVec F S384x1024 .bf16) (v : Vec F S384x8x128 .f32) (kb vb : FVec F S128x1024 .bf16)
    (wo : FVec F S1024x1024 .f32) :
    k0_pay63 (k0_pay62 q M (k0_pay53 k kb) (k0_pay54 v vb) (k0_pay55 q M k kb v vb) (k0_pay56 q M k kb v vb)
      (k0_pay58 M (k0_pay54 v vb) (k0_pay57 q k kb)) (k0_pay59 q M (k0_pay53 k kb) (k0_pay54 v vb)) (k0_pay60 q M (k0_pay53 k kb) (k0_pay54 v vb))
      (k0_pay61 q (k0_pay53 k kb)) wo)
      = blockOf 768 (by decide) M q (k0_pay53 k kb) (k0_pay54 v vb) wo := rfl

/-! ## Reads and writes of the buffers -/

/-- Rows of a device's K or V, read through a window of its array. -/
theorem read_rows4 (b : Memref sig .tc .hbm S1x1024x8x128 .f32) (n o : ℕ) (inb) (hr) (hs : (⟨4, ![1, n, 8, 128]⟩ : Shape).Squeezes ⟨3, ![n, 8, 128]⟩)
    (f : b.view.ty.Contents (Elt F)) (y : (⟨3, ![n, 8, 128]⟩ : Shape).Idx) (k : S1x1024x8x128.Idx) (hk : k = ix4 0 (k 1) (y 1) (y 2)) (hy : (k 1).val = o + (y 0).val) :
    View.read (Elt F) ((b.slice (Rect.unit (s := S1x1024x8x128) ![0, o, 0, 0] (⟨4, ![1, n, 8, 128]⟩ : Shape).size inb) hr).squeeze (⟨3, ![n, 8, 128]⟩ : Shape) hs).view f y
      = b.view.read (Elt F) f k := by
  rw [Memref.read_squeeze_slice b _ hr hs hs.numel_eq]
  refine (shapeCast_dropUnit_apply (n := 3) ![n, 8, 128] _ _ y).trans ?_
  refine congrArg (b.view.read (Elt F) f) (funext fun a => Fin.ext ?_)
  rw [hk]
  match a with
  | ⟨0, _⟩ => rfl
  | ⟨1, _⟩ => show o + 1 * (y 0).val = (k 1).val; omega
  | ⟨2, _⟩ => show 0 + 1 * (y 1).val = (y 1).val; omega
  | ⟨3, _⟩ => show 0 + 1 * (y 2).val = (y 2).val; omega

theorem read_x (b : Memref sig .tc .hbm S1x1024x1024 .f32) (inb) (hr) (hs : S1x1024x1024.Squeezes S1024x1024)
    (f : b.view.ty.Contents (Elt F)) (y : S1024x1024.Idx) :
    View.read (Elt F) ((b.slice (Rect.unit (s := S1x1024x1024) ![0, 0, 0] S1x1024x1024.size inb) hr).squeeze S1024x1024 hs).view f y
      = b.view.read (Elt F) f (ix3 0 (y 0) (y 1)) := by
  rw [Memref.read_squeeze_slice b _ hr hs hs.numel_eq]
  refine (shapeCast_dropUnit_apply (n := 2) ![1024, 1024] _ _ y).trans ?_
  refine congrArg (b.view.read (Elt F) f) (funext fun a => Fin.ext ?_)
  match a with
  | ⟨0, _⟩ => rfl
  | ⟨1, _⟩ => show 0 + 1 * (y 0).val = (y 0).val; omega
  | ⟨2, _⟩ => show 0 + 1 * (y 1).val = (y 1).val; omega

/-- The window of 256 result rows that starts at row `o`. -/
abbrev outV (o : ℕ) (inb : ∀ a, (![0, o, 0] : Fin 3 → ℕ) a + S1x256x1024.size a ≤ S1x1024x1024.size a)
    (hr : ∀ a, (Rect.unit (s := S1x1024x1024) ![0, o, 0] S1x256x1024.size inb).stride a = 1) (hs : S1x256x1024.Squeezes S256x1024) : View sig .tc .hbm S256x1024 .f32 :=
  (((Memref.whole main_v1).slice (Rect.unit (s := S1x1024x1024) ![0, o, 0] S1x256x1024.size inb) hr).squeeze S256x1024 hs).view

theorem outV_emb (o : ℕ) (inb) (hr) (hs : S1x256x1024.Squeezes S256x1024) (ho : o + 256 ≤ 1024) (x : S256x1024.Idx) :
    (outV o inb hr hs).emb x = (ix3 0 ⟨o + (x 0).val, by have : (x 0).val < 256 := (x 0).isLt; omega⟩ (x 1) : S1x1024x1024.Idx) := by
  have e := Shape.reshapeEquiv_cons_one (d := ![256, 1024]) hs.numel_eq x
  refine (congrArg (Rect.unit (s := S1x1024x1024) ![0, o, 0] S1x256x1024.size inb).emb e).trans ?_
  funext a
  refine Fin.ext ?_
  match a with
  | ⟨0, _⟩ => rfl
  | ⟨1, _⟩ => show o + 1 * (x 0).val = o + (x 0).val; omega
  | ⟨2, _⟩ => show 0 + 1 * (x 1).val = (x 1).val; omega

theorem rows_hit {o : ℕ} {inb} {hr} {hs : S1x256x1024.Squeezes S256x1024} (ho : o + 256 ≤ 1024) (f : FVec F S1x1024x1024 .f32) (w : FVec F S256x1024 .f32) :
    RowsAre o ho w ((outV o inb hr hs).write (Elt F) f w Finset.univ) := fun i j => by
  have h := View.write_emb_of_mem (v := outV o inb hr hs) (Val := Elt F) f w (M := Finset.univ) (x := ix2 i j) (Finset.mem_univ _)
  rw [outV_emb o inb hr hs ho] at h
  exact h

theorem rows_miss {o o' : ℕ} {inb} {hr} {hs : S1x256x1024.Squeezes S256x1024} (ho : o + 256 ≤ 1024) (ho' : o' + 256 ≤ 1024) (h : o + 256 ≤ o' ∨ o' + 256 ≤ o)
    {f : FVec F S1x1024x1024 .f32} {w : FVec F S256x1024 .f32} (w' : FVec F S256x1024 .f32) (hf : RowsAre o ho w f) :
    RowsAre o ho w ((outV o' inb hr hs).write (Elt F) f w' Finset.univ) := fun i j => by
  refine Eq.trans (View.write_of_not_mem (v := outV o' inb hr hs) (Val := Elt F) f w' Finset.univ ?_) (hf i j)
  intro hm
  obtain ⟨x, -, e⟩ := Finset.mem_map.mp hm
  rw [outV_emb o' inb hr hs ho'] at e
  have e1 : o' + (x 0).val = o + i.val := congrArg (fun z : S1x1024x1024.Idx => (z 1).val) e
  have : (x 0).val < 256 := (x 0).isLt
  omega

/-- The staged block, read back by the transfer out. -/
theorem stage_read (o : ℕ) (inb) (hr) (f : (Memref.whole cc0_scratch5).view.ty.Contents (Elt F)) (w : FVec F S256x1024 .f32) (L) :
    ReadAs.same.apply (View.read (Elt F) ((Memref.whole cc0_scratch5).slice (Rect.unit (s := S1024x1024) ![o, 0] S256x1024.size inb) hr).view
      ((Memref.whole cc0_scratch5).view.writes (Elt F) f (⟨Rect.unit (s := S1024x1024) ![o, 0] S256x1024.size inb, w⟩ :: L))) = w :=
  funext fun x => View.read_writes_cons_emb (Memref.whole cc0_scratch5).view f (Rect.unit (s := S1024x1024) ![o, 0] S256x1024.size inb) w L x

/-- The four transfers out leave the four blocks. -/
theorem out_blocks (c : Dev nD) {i0 i1 i2 i3} {r0 r1 r2 r3} {s0 s1 s2 s3 : S1x256x1024.Squeezes S256x1024} (f : FVec F S1x1024x1024 .f32)
    {w0 w1 w2 w3 : FVec F S256x1024 .f32} (h0 : w0 = blk0 m c) (h1 : w1 = blk1 m c) (h2 : w2 = blk2 m c) (h3 : w3 = blk3 m c) :
    OutOK m c ((outV 768 i3 r3 s3).write (Elt F) ((outV 0 i0 r0 s0).write (Elt F) ((outV 512 i2 r2 s2).write (Elt F)
      ((outV 256 i1 r1 s1).write (Elt F) f w1 Finset.univ) w2 Finset.univ) w0 Finset.univ) w3 Finset.univ) := by
  subst h0 h1 h2 h3
  refine ⟨?_, ?_, ?_, ?_⟩
  · exact rows_miss _ (by decide) (by decide) _ (rows_hit _ _ _)
  · exact rows_miss _ (by decide) (by decide) _ (rows_miss _ (by decide) (by decide) _ (rows_miss _ (by decide) (by decide) _ (rows_hit _ _ _)))
  · exact rows_miss _ (by decide) (by decide) _ (rows_miss _ (by decide) (by decide) _ (rows_hit _ _ _))
  · exact rows_hit _ _ _

/-- The 1024 rows of K or V, fetched in four pieces, read in any window. -/
theorem fetched (b : Memref sig .tc .vmem S1024x8x128 .f32) (a : Memref sig .tc .hbm S1x1024x8x128 .f32) (f : a.view.ty.Contents (Elt F))
    {i0 i1 i2 i3} {r0 r1 r2 r3} {j0 j1 j2 j3} {s0 : S1x384x8x128.Squeezes S384x8x128} {s1 s2 : S1x256x8x128.Squeezes S256x8x128} {s3 : S1x128x8x128.Squeezes S128x8x128}
    (n o : ℕ) (inb) (y : (⟨3, ![n, 8, 128]⟩ : Shape).Idx) :
    b.view.readCov [⟨Rect.unit (s := S1024x8x128) ![896, 0, 0] S128x8x128.size j3, ReadAs.same.apply (View.read (Elt F)
          ((a.slice (Rect.unit (s := S1x1024x8x128) ![0, 896, 0, 0] S1x128x8x128.size i3) r3).squeeze S128x8x128 s3).view f)⟩,
        ⟨Rect.unit (s := S1024x8x128) ![640, 0, 0] S256x8x128.size j2, ReadAs.same.apply (View.read (Elt F)
          ((a.slice (Rect.unit (s := S1x1024x8x128) ![0, 640, 0, 0] S1x256x8x128.size i2) r2).squeeze S256x8x128 s2).view f)⟩,
        ⟨Rect.unit (s := S1024x8x128) ![384, 0, 0] S256x8x128.size j1, ReadAs.same.apply (View.read (Elt F)
          ((a.slice (Rect.unit (s := S1x1024x8x128) ![0, 384, 0, 0] S1x256x8x128.size i1) r1).squeeze S256x8x128 s1).view f)⟩,
        ⟨Rect.unit (s := S1024x8x128) ![0, 0, 0] S384x8x128.size j0, ReadAs.same.apply (View.read (Elt F)
          ((a.slice (Rect.unit (s := S1x1024x8x128) ![0, 0, 0, 0] S1x384x8x128.size i0) r0).squeeze S384x8x128 s0).view f)⟩]
      (Rect.unit (s := S1024x8x128) ![o, 0, 0] (⟨3, ![n, 8, 128]⟩ : Shape).size inb).toLoadRect y
      = (fun z : S1024x8x128.Idx => a.view.read (Elt F) f (ix4 0 (z 0) (z 1) (z 2))) ((Rect.unit (s := S1024x8x128) ![o, 0, 0] (⟨3, ![n, 8, 128]⟩ : Shape).size inb).emb y) := by
  rw [View.readCov_eq_canon']
  refine View.canon_apply_of_pieces (fun z : S1024x8x128.Idx => a.view.read (Elt F) f (ix4 0 (z 0) (z 1) (z 2))) _ ?_ _ ?_
  · intro p hp x
    simp only [List.mem_cons, List.not_mem_nil, or_false] at hp
    have key : ∀ (n' k : ℕ) (u) (hr) (hs) (j' : ∀ a, (![k, 0, 0] : Fin 3 → ℕ) a + (⟨3, ![n', 8, 128]⟩ : Shape).size a ≤ S1024x8x128.size a) (x : (⟨3, ![n', 8, 128]⟩ : Shape).Idx),
        View.read (Elt F) ((a.slice (Rect.unit (s := S1x1024x8x128) ![0, k, 0, 0] (⟨4, ![1, n', 8, 128]⟩ : Shape).size u) hr).squeeze (⟨3, ![n', 8, 128]⟩ : Shape) hs).view f x
          = (fun z : S1024x8x128.Idx => a.view.read (Elt F) f (ix4 0 (z 0) (z 1) (z 2))) ((Rect.unit (s := S1024x8x128) ![k, 0, 0] (⟨3, ![n', 8, 128]⟩ : Shape).size j').emb x) := by
      intro n' k u hr hs j' x
      refine read_rows4 a _ _ _ _ _ f x _ ?_ ?_
      · funext d
        match d with
        | ⟨0, _⟩ => rfl
        | ⟨1, _⟩ => rfl
        | ⟨2, _⟩ => exact Fin.ext ((Nat.zero_add _).trans (Nat.one_mul _))
        | ⟨3, _⟩ => exact Fin.ext ((Nat.zero_add _).trans (Nat.one_mul _))
      · exact congrArg (k + ·) (Nat.one_mul _)
    rcases hp with rfl | rfl | rfl | rfl
    · exact key 128 896 i3 r3 s3 j3 x
    · exact key 256 640 i2 r2 s2 j2 x
    · exact key 256 384 i1 r1 s1 j1 x
    · exact key 384 0 i0 r0 s0 j0 x
  · generalize hz : (Rect.unit (s := S1024x8x128) ![o, 0, 0] (⟨3, ![n, 8, 128]⟩ : Shape).size inb).toLoadRect.idx y = z
    have h0 : (z 0).val < 1024 := (z 0).isLt
    have h1 : (z 1).val < 8 := (z 1).isLt
    have h2 : (z 2).val < 128 := (z 2).isLt
    have mem : ∀ (k n' : ℕ) (j : ∀ a, (![k, 0, 0] : Fin 3 → ℕ) a + (⟨3, ![n', 8, 128]⟩ : Shape).size a ≤ S1024x8x128.size a), k ≤ (z 0).val → (z 0).val < k + n' →
        z ∈ (Rect.unit (s := S1024x8x128) ![k, 0, 0] (⟨3, ![n', 8, 128]⟩ : Shape).size j).set := fun k n' j ha hb => by
      rw [Rect.mem_set_unit]
      intro d
      match d with
      | ⟨0, _⟩ => exact ⟨ha, hb⟩
      | ⟨1, _⟩ => exact ⟨Nat.zero_le _, by show (z 1).val < 0 + 8; omega⟩
      | ⟨2, _⟩ => exact ⟨Nat.zero_le _, by show (z 2).val < 0 + 128; omega⟩
    by_cases c3 : 896 ≤ (z 0).val
    · exact ⟨_, List.mem_cons_self, mem 896 128 j3 c3 (by omega)⟩
    by_cases c2 : 640 ≤ (z 0).val
    · exact ⟨_, List.mem_cons_of_mem _ List.mem_cons_self, mem 640 256 j2 c2 (by omega)⟩
    by_cases c1 : 384 ≤ (z 0).val
    · exact ⟨_, List.mem_cons_of_mem _ (List.mem_cons_of_mem _ List.mem_cons_self), mem 384 256 j1 c1 (by omega)⟩
    · exact ⟨_, List.mem_cons_of_mem _ (List.mem_cons_of_mem _ (List.mem_cons_of_mem _ List.mem_cons_self)), mem 0 384 j0 (Nat.zero_le _) (by omega)⟩

theorem rows_of {n o : ℕ} {inb} {G : FVec F S1024x8x128 .f32} {w : FVec F ⟨3, ![n, 8, 128]⟩ .f32}
    (h : ∀ y, w y = G ((Rect.unit (s := S1024x8x128) ![o, 0, 0] (⟨3, ![n, 8, 128]⟩ : Shape).size inb).emb y)) : w = rowsAt n o inb G := funext h

theorem blk1_of (c : Dev nD) {M q k v wo} (hM : M = mask1 c) (hq : q = qOf m c) (hk : k = rowsAt 512 128 inb_S1024x8x128_S512x8x128_128_0_0 (kMat m c))
    (hv : v = rowsAt 512 128 inb_S1024x8x128_S512x8x128_128_0_0 (vMat m c)) (ho : wo = m ((c : Thread nD τ).loc main_arg4)) :
    blockOf 256 (by decide) M q (k0_pay13 k) (k0_pay14 v) wo = blk1 m c := by subst hM hq hk hv ho; rfl
theorem blk2_of (c : Dev nD) {M q k v wo} (hM : M = mask2 c) (hq : q = qOf m c) (hk : k = rowsAt 512 384 inb_S1024x8x128_S512x8x128_384_0_0 (kMat m c))
    (hv : v = rowsAt 512 384 inb_S1024x8x128_S512x8x128_384_0_0 (vMat m c)) (ho : wo = m ((c : Thread nD τ).loc main_arg4)) :
    blockOf 512 (by decide) M q (k0_pay27 k) (k0_pay28 v) wo = blk2 m c := by subst hM hq hk hv ho; rfl
theorem blk0_of (c : Dev nD) {M q k v wo} (hM : M = mask0 c) (hq : q = qOf m c) (hk : k = kWin0 m c) (hv : v = vWin0 m c) (ho : wo = m ((c : Thread nD τ).loc main_arg4)) :
    blockOf 0 (by decide) M q k v wo = blk0 m c := by subst hM hq hk hv ho; rfl
theorem blk3_of (c : Dev nD) {M q k v kb vb wo} (hM : M = mask3 c) (hq : q = qOf m c)
    (hk : k = k0_pay52 (rowsAt 384 640 inb_S1024x8x128_S384x8x128_640_0_0 (kMat m c))) (hv : v = rowsAt 384 640 inb_S1024x8x128_S384x8x128_640_0_0 (vMat m c))
    (hkb : kb = botK m c) (hvb : vb = botV m c) (ho : wo = m ((c : Thread nD τ).loc main_arg4)) :
    blockOf 768 (by decide) M q (k0_pay53 k kb) (k0_pay54 v vb) wo = blk3 m c := by subst hM hq hk hv hkb hvb ho; rfl

end Cert.Halo
-- ==== Proof.Body.lean ====
/-
The body: one device runs the kernel, from what the launch deals it to a right result array and every semaphore back at zero.
-/
module

public import proofs.«01_k».proof.Proof.Value

@[expose] public section

noncomputable section

namespace Cert.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ)
variable (K : Dev nD × Fin 9 → ℕ)

/-- The kernel body at the arrays it is launched on. -/
abbrev theBody : Prog (TpuEff nD τ sig (Elt F) Λ₀ .tc) PUnit :=
  cc0_body (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) cc0_scratch18 cc0_scratch19 cc0_scratch20 cc0_scratch21

/-- The transfer semaphore `k` of device `c`, at zero. -/
abbrev zsem (c : Dev nD) (k : ℕ) (h : k < 27 := by omega) : sProp 𝕄 := semVal ((c : Thread nD τ), SemLoc.dma (⟨k, h⟩ : Fin 27)) 0

/-- The local transfers' semaphores, at zero. -/
def localSems (c : Dev nD) : sProp 𝕄 :=
  iprop(zsem c 0 ∗ zsem c 1 ∗ zsem c 2 ∗ zsem c 3 ∗ zsem c 4 ∗ zsem c 5 ∗ zsem c 6 ∗ zsem c 7 ∗ zsem c 8 ∗ zsem c 9 ∗ zsem c 10 ∗ zsem c 11 ∗ zsem c 12 ∗ zsem c 13 ∗ zsem c 14 ∗ zsem c 15 ∗ zsem c 16 ∗ zsem c 17 ∗ zsem c 18)

/-- All the kernel's semaphores, at zero. -/
def ownZero (c : Dev nD) : sProp 𝕄 :=
  iprop(zsem c 0 ∗ zsem c 1 ∗ zsem c 2 ∗ zsem c 3 ∗ zsem c 4 ∗ zsem c 5 ∗ zsem c 6 ∗ zsem c 7 ∗ zsem c 8 ∗ zsem c 9 ∗ zsem c 10 ∗ zsem c 11 ∗ zsem c 12 ∗ zsem c 13 ∗ zsem c 14 ∗ zsem c 15 ∗ zsem c 16 ∗ zsem c 17 ∗ zsem c 18 ∗ zsem c 19 ∗ zsem c 20 ∗ zsem c 21 ∗ zsem c 22 ∗ zsem c 23 ∗ zsem c 24 ∗ zsem c 25 ∗ zsem c 26)

/-- The five argument arrays, as at launch. -/
def argsHeld (c : Dev nD) : sProp 𝕄 :=
  iprop(held c main_arg0 (m ((c : Thread nD τ).loc main_arg0)) ∗ held c main_arg1 (m ((c : Thread nD τ).loc main_arg1)) ∗ held c main_arg2 (m ((c : Thread nD τ).loc main_arg2)) ∗ held c main_arg3 (m ((c : Thread nD τ).loc main_arg3)) ∗ held c main_arg4 (m ((c : Thread nD τ).loc main_arg4)))

/-- The scratch buffers that no other device writes, and all of them. -/
def scratchLow (c : Dev nD) : sProp 𝕄 :=
  iprop((∃ f, held c cc0_scratch0 f) ∗ (∃ f, held c cc0_scratch1 f) ∗ (∃ f, held c cc0_scratch2 f) ∗ (∃ f, held c cc0_scratch3 f) ∗ (∃ f, held c cc0_scratch4 f) ∗ (∃ f, held c cc0_scratch5 f) ∗ (∃ f, held c cc0_scratch6 f) ∗ (∃ f, held c cc0_scratch7 f) ∗ (∃ f, held c cc0_scratch8 f) ∗ (∃ f, held c cc0_scratch9 f) ∗ (∃ f, held c cc0_scratch10 f) ∗ (∃ f, held c cc0_scratch11 f) ∗ (∃ f, held c cc0_scratch12 f) ∗ (∃ f, held c cc0_scratch13 f))
def scratchAll (c : Dev nD) : sProp 𝕄 :=
  iprop((∃ f, held c cc0_scratch0 f) ∗ (∃ f, held c cc0_scratch1 f) ∗ (∃ f, held c cc0_scratch2 f) ∗ (∃ f, held c cc0_scratch3 f) ∗ (∃ f, held c cc0_scratch4 f) ∗ (∃ f, held c cc0_scratch5 f) ∗ (∃ f, held c cc0_scratch6 f) ∗ (∃ f, held c cc0_scratch7 f) ∗ (∃ f, held c cc0_scratch8 f) ∗ (∃ f, held c cc0_scratch9 f) ∗ (∃ f, held c cc0_scratch10 f) ∗ (∃ f, held c cc0_scratch11 f) ∗ (∃ f, held c cc0_scratch12 f) ∗ (∃ f, held c cc0_scratch13 f) ∗ (∃ f, held c cc0_scratch14 f) ∗ (∃ f, held c cc0_scratch15 f) ∗ (∃ f, held c cc0_scratch16 f) ∗ (∃ f, held c cc0_scratch17 f))

/-- The protocol's ghost state of device `c`. -/
def ghost (c : Dev nD) : sProp 𝕄 :=
  iprop((sigL m K c ∗ sigR m K c ∗ cellInv ER (rd m) (K (c, 0)) (barCell c) ∗ atPos ER (barCell c) 0 ∅ 0)
    ∗ (ticket m K c (prv c) 0 ∗ ticket m K c (prv c) 2 ∗ ticket m K c (nxt c) 1 ∗ ticket m K c (nxt c) 3)
    ∗ (atRecv m K c 0 ∗ atRecv m K c 1 ∗ atRecv m K c 2 ∗ atRecv m K c 3)
    ∗ (atSend m K c 0 ∗ atSend m K c 1 ∗ atSend m K c 2 ∗ atSend m K c 3))

/-- What other devices owe device `c`. -/
def credits (c : Dev nD) : sProp 𝕄 :=
  iprop(cred (tallyAt (barCell c) () (nb c)) ∗ credRecv c 0 ∗ credRecv c 1 ∗ credRecv c 2 ∗ credRecv c 3)

/-- The result array, holding what it should. -/
def outHeld (c : Dev nD) : sProp 𝕄 := iprop(∃ g, ⌜OutOK m c g⌝ ∗ held c main_v1 g)

/-- An array known to hold what it should is such an array. -/
theorem out_intro (c : Dev nD) (g : Buf (Elt F) ((c : Thread nD τ).loc main_v1)) (h : OutOK m c g) : (held c main_v1 g : sProp 𝕄) ⊢ outHeld m c := by
  unfold outHeld
  iintro H
  iexists g
  isplitr; · ipureintro; exact h
  iexact H

/-- The result array after the four transfers out. -/
theorem out_all (c : Dev nD) {i0 i1 i2 i3} {r0 r1 r2 r3} {s0 s1 s2 s3 : S1x256x1024.Squeezes S256x1024} (f : Buf (Elt F) ((c : Thread nD τ).loc main_v1))
    {w0 w1 w2 w3 : FVec F S256x1024 .f32} (h0 : w0 = blk0 m c) (h1 : w1 = blk1 m c) (h2 : w2 = blk2 m c) (h3 : w3 = blk3 m c) :
    (held c main_v1 ((outV 768 i3 r3 s3).write (Elt F) ((outV 0 i0 r0 s0).write (Elt F) ((outV 512 i2 r2 s2).write (Elt F)
      ((outV 256 i1 r1 s1).write (Elt F) f w1 Finset.univ) w2 Finset.univ) w0 Finset.univ) w3 Finset.univ) : sProp 𝕄) ⊢ outHeld m c :=
  out_intro m c _ (out_blocks m c f h0 h1 h2 h3)

/-- What the body starts from, -/
def bodyPre (c : Dev nD) : sProp 𝕄 :=
  iprop(ghost m K c ∗ credits c ∗ levAts L lv ∗ localSems c ∗ argsHeld m c ∗ held c main_v1 (m ((c : Thread nD τ).loc main_v1)) ∗ scratchLow c ∗ landL c ∗ landR c)
/-- and what it leaves. -/
def bodyPost (c : Dev nD) : sProp 𝕄 :=
  iprop(argsHeld m c ∗ outHeld m c ∗ semVal (barCell c) 0 ∗ ownZero c ∗ scratchAll c)

/-- Six readers of one array. -/
theorem six_readers {ℓ : Loc nD τ sig} (f : Buf (Elt F) ℓ) :
    (ℓ ↦{fullShare} f : sProp 𝕄) ⊣⊢ iprop((ℓ ↦{Transfers.shareDrop fullShare 6} f) ∗ (ℓ ↦{Transfers.shareTokN fullShare 0} f) ∗ (ℓ ↦{Transfers.shareTokN fullShare 1} f)
      ∗ (ℓ ↦{Transfers.shareTokN fullShare 2} f) ∗ (ℓ ↦{Transfers.shareTokN fullShare 3} f) ∗ (ℓ ↦{Transfers.shareTokN fullShare 4} f) ∗ (ℓ ↦{Transfers.shareTokN fullShare 5} f)) := by
  have h := Transfers.pointsTo_toks_range (S := Finset.univ) (f := f) (Ix := Unit) (Name := ℕ) (U := UU) (Lvl := ℕ) fullShare 6
  rw [bigSep_eq_bigSepL_of_eq [0, 1, 2, 3, 4, 5] (by decide) (by decide)] at h
  exact h

theorem zeros₃ : (![0, 0, 0] : Fin 3 → ℕ) = fun _ => 0 := by funext i; fin_cases i <;> rfl

theorem whole_pay (b : Ref sig .tc) {off : Fin b.ty.shape.rank → ℕ} (h : off = fun _ => 0)
    (inb : ∀ a, off a + b.ty.shape.size a ≤ b.ty.shape.size a) (f w : b.ty.Contents (Elt F)) :
    (Memref.whole b).view.readAt (Elt F) (Rect.unit off b.ty.shape.size inb).toLoadRect ((Memref.whole b).view.write (Elt F) f w Finset.univ) = w :=
  (Memref.readAt_unit_zero (Elt F) b h inb _).trans (View.write_whole_univ b f w)

set_option maxHeartbeats 4000000 in
/-- The body of device `c`, run once. -/
theorem sound_body (c : Dev nD) (W : Waits sig Unit) :
    iprop(bodyPre m K c ∗ owes (c : Thread nD τ) (O₀ c) W)
      ⊢ wp frame (wpE (defs₀ (F := F)) 𝒱₀ c none) Set.univ theBody (fun _ => iprop(bodyPost m c ∗ ∃ W', owes (c : Thread nD τ) 0 W')) := by
  unfold theBody
  simp only [cc0_body_eq_skeleton]; unfold cc0_body_skel
  delta bodyPre ghost credits localSems argsHeld scratchLow zsem held
  iintro ⟨⟨⟨⟨HsL, HsR, #HIb, Hab⟩, ⟨Ht0, Ht2, Ht1, Ht3⟩, ⟨Har0, Har1, Har2, Har3⟩, ⟨Has0, Has1, Has2, Has3⟩⟩, ⟨Hcb, Hcr0, Hcr1, Hcr2, Hcr3⟩, #Hlev,
    ⟨Hz0, Hz1, Hz2, Hz3, Hz4, Hz5, Hz6, Hz7, Hz8, Hz9, Hz10, Hz11, Hz12, Hz13, Hz14, Hz15, Hz16, Hz17, Hz18⟩, ⟨Hx, Hwq, HK, HV, Hwo⟩, Hout,
    ⟨⟨%f0, Hb0⟩, ⟨%f1, Hb1⟩, ⟨%f2, Hb2⟩, ⟨%f3, Hb3⟩, ⟨%f4, Hb4⟩, ⟨%f5, Hb5⟩, ⟨%f6, Hb6⟩, ⟨%f7, Hb7⟩, ⟨%f8, Hb8⟩, ⟨%f9, Hb9⟩, ⟨%f10, Hb10⟩, ⟨%f11, Hb11⟩, ⟨%f12, Hb12⟩, ⟨%f13, Hb13⟩⟩, HlL, HlR⟩, HO⟩
  ihave HK' := (six_readers (F := F) _).1 $$ HK
  icases HK' with ⟨HKd, HK0, HK1, HK2, HK3, HK4, HK5⟩
  ihave HV' := (six_readers (F := F) _).1 $$ HV
  icases HV' with ⟨HVd, HV0, HV1, HV2, HV3, HV4, HV5⟩
  set_option sl_exec.dmaWindow true in
  set_option sl_exec.stopBefore "k0_cond1" in
  sl_exec
  unfold O₀
  iapply (guard_sigL m K rfl) $$ [HsL HlL HO]
  · isplitl [HsL]; · iexact HsL
    isplitl [HlL]; · iexact HlL
    iexact HO
  iintro ⟨HO, HkL⟩
  iapply (guard_sigR m K rfl) $$ [HsR HlR HO]
  · isplitl [HsR]; · iexact HsR
    isplitl [HlR]; · iexact HlR
    iexact HO
  iintro ⟨HO, HkR⟩
  iapply (wait_bar m (κ := K (c, 0)) rfl (amt1_toInt c)) $$ [Hcb Hab HO]
  · isplitr; · iexact HIb
    isplitl [Hcb]; · iexact Hcb
    isplitl [Hab]; · iexact Hab
    isplitr; · iexact Hlev
    iexact HO
  iintro ⟨⟨%W1, HO⟩, HzB, HgL, HgR⟩
  have hmw : ∀ q : DmaSem sig, (show Fin 27 from q).val < 15 → ((levAts L lv : sProp 𝕄) ⊢ MayWait (c : Thread nD τ) (.dma q) () (O₁ c)) :=
    fun q hq => mayWait_low c (.dma q) (by show (if 23 ≤ (show Fin 27 from q).val then 2 else 0) ≤ 1; rw [if_neg (by omega)]; decide)
  set_option sl_exec.dmaWindow true in
  set_option sl_exec.stopBefore "k0_cond3" in
  sl_exec
  ihave Hb10 : iprop(held c cc0_scratch10 (sent0 m c)) $$ [Hb10]
  · iapply (pts_congr ((whole_writes cc0_scratch10 zeros₂ _ _ _).trans (congrArg (fun v => k0_pay1 v) (whole_pay cc0_scratch6 zeros₃ _ _ _)))); iexact Hb10
  ihave Hb11 : iprop(held c cc0_scratch11 (sent1 m c)) $$ [Hb11]
  · iapply (pts_congr ((whole_writes cc0_scratch11 zeros₂ _ _ _).trans (congrArg (fun v => k0_pay4 v) (whole_pay cc0_scratch7 zeros₃ _ _ _)))); iexact Hb11
  ihave Hb12 : iprop(held c cc0_scratch12 (sent2 m c)) $$ [Hb12]
  · iapply (pts_congr ((whole_writes cc0_scratch12 zeros₂ _ _ _).trans (congrArg (fun v => k0_pay3 (k0_pay2 v)) (whole_pay cc0_scratch8 zeros₃ _ _ _)))); iexact Hb12
  ihave Hb13 : iprop(held c cc0_scratch13 (sent3 m c)) $$ [Hb13]
  · iapply (pts_congr ((whole_writes cc0_scratch13 zeros₂ _ _ _).trans (congrArg (fun v => k0_pay5 v) (whole_pay cc0_scratch9 zeros₃ _ _ _)))); iexact Hb13
  iapply (step_sendL m K c _ _) $$ [Ht0 Ht2 Hb10 Hb12 HgL HO]
  · isplitl [Ht0]; · iexact Ht0
    isplitl [Ht2]; · iexact Ht2
    isplitl [Hb10]; · iexact Hb10
    isplitl [Hb12]; · iexact Hb12
    isplitl [HgL]; · iexact HgL
    unfold O₁; iexact HO
  iintro ⟨HO, HnL⟩
  iapply (step_sendR m K c 0 _) $$ [Ht1 Ht3 Hb11 Hb13 HgR HO]
  · isplitl [Ht1]; · iexact Ht1
    isplitl [Ht3]; · iexact Ht3
    isplitl [Hb11]; · iexact Hb11
    isplitl [Hb13]; · iexact Hb13
    isplitl [HgR]; · iexact HgR
    rw [zero_add]; iexact HO
  iintro ⟨HO, HnR⟩
  set_option sl_exec.dmaWindow true in
  sl_exec
  have h5 : ∀ c' : Dev nD, sound_body.sl.v128 c' = 1#1 ↔ ¬ hasL c' := by decide
  iapply (guard_zeroL (h5 c)) $$ HkL
  iintro HkL
  sl_exec
  have h6 : ∀ c' : Dev nD, sound_body.sl.v131 c' = 1#1 ↔ ¬ hasR c' := by decide
  iapply (guard_zeroR (h6 c)) $$ HkR
  iintro HkR
  set_option sl_exec.dmaWindow true in
  sl_exec
  have h7 : ∀ c' : Dev nD, sound_body.sl.v482 c' = 1#1 ↔ hasL c' := by decide
  iapply (step_recvL m K c _ (h7 c)) $$ [Har1 Har3 Hcr1 Hcr3 HkL HO]
  · isplitl [Har1]; · iexact Har1
    isplitl [Har3]; · iexact Har3
    isplitl [Hcr1]; · iexact Hcr1
    isplitl [Hcr3]; · iexact Hcr3
    isplitl [HkL]; · iexact HkL
    iexact HO
  iintro ⟨⟨%Wh7, HO⟩, Hr1, Hr3, Hb14, Hb16⟩
  set_option sl_exec.dmaWindow true in
  sl_exec
  have h8 : ∀ c' : Dev nD, sound_body.sl.v648 c' = 1#1 ↔ hasR c' := by decide
  iapply (step_recvR m K c _ (h8 c)) $$ [Har0 Har2 Hcr0 Hcr2 HkR HO]
  · isplitl [Har0]; · iexact Har0
    isplitl [Har2]; · iexact Har2
    isplitl [Hcr0]; · iexact Hcr0
    isplitl [Hcr2]; · iexact Hcr2
    isplitl [HkR]; · iexact HkR
    iexact HO
  iintro ⟨⟨%Wh8, HO⟩, Hr0, Hr2, Hb15, Hb17⟩
  set_option sl_exec.dmaWindow true in
  sl_exec
  have h9 : ∀ c' : Dev nD, sound_body.sl.v804 c' = 1#1 ↔ hasL c' := by decide
  iapply (step_backL m K c _ (h9 c)) $$ [Has0 Has2 HnL HO]
  · isplitl [Has0]; · iexact Has0
    isplitl [Has2]; · iexact Has2
    isplitl [HnL]; · iexact HnL
    iexact HO
  iintro ⟨⟨%Wh9, HO⟩, Hs0, Hs2, Hb10, Hb12⟩
  set_option sl_exec.dmaWindow true in
  sl_exec
  have h10 : ∀ c' : Dev nD, sound_body.sl.v806 c' = 1#1 ↔ hasR c' := by decide
  iapply (step_backR m K c _ (h10 c)) $$ [Has1 Has3 HnR HO]
  · isplitl [Has1]; · iexact Has1
    isplitl [Has3]; · iexact Has3
    isplitl [HnR]; · iexact HnR
    iexact HO
  iintro ⟨⟨%Wh10, HO⟩, Hs1, Hs3, Hb11, Hb13⟩
  set_option sl_exec.dmaWindow true in
  sl_exec
  rw [wp_ret]; imodintro
  ihave HK := (six_readers (F := F) _).2 $$ [HKd HK0 HK1 HK2 HK3 HK4 HK5]
  · isplitl [HKd]; · iexact HKd
    isplitl [HK0]; · iexact HK0
    isplitl [HK1]; · iexact HK1
    isplitl [HK2]; · iexact HK2
    isplitl [HK3]; · iexact HK3
    isplitl [HK4]; · iexact HK4
    iexact HK5
  ihave HV := (six_readers (F := F) _).2 $$ [HVd HV0 HV1 HV2 HV3 HV4 HV5]
  · isplitl [HVd]; · iexact HVd
    isplitl [HV0]; · iexact HV0
    isplitl [HV1]; · iexact HV1
    isplitl [HV2]; · iexact HV2
    isplitl [HV3]; · iexact HV3
    isplitl [HV4]; · iexact HV4
    iexact HV5
  isplitr [HO]
  rotate_left
  · iexists _; iexact HO
  delta bodyPost argsHeld ownZero scratchAll zsem held
  isplitl [Hx Hwq HK HV Hwo]
  · isplitl [Hx]; · iexact Hx
    isplitl [Hwq]; · iexact Hwq
    isplitl [HK]; · iexact HK
    isplitl [HV]; · iexact HV
    iexact Hwo
  isplitl [Hout]
  · have hq : sound_body.sl.r_1 m c f0 f1 = qOf m c := congrArg₂ k0_pay10
      ((whole_pay cc0_scratch0 zeros₂ _ _ _).trans (funext fun y => read_x (Memref.whole main_arg0) _ _ _ _ y)) (whole_pay cc0_scratch1 zeros₂ _ _ _)
    have ho1 : sound_body.sl.v311 m c f2 = m ((c : Thread nD τ).loc main_arg4) := whole_pay cc0_scratch2 zeros₂ _ _ _
    have ho0 : sound_body.sl.v627 m c f2 = m ((c : Thread nD τ).loc main_arg4) := whole_pay cc0_scratch2 zeros₂ _ _ _
    have ho3 : sound_body.sl.v793 m c f2 = m ((c : Thread nD τ).loc main_arg4) := whole_pay cc0_scratch2 zeros₂ _ _ _
    have hk1 : sound_body.sl.v184 m c = rowsAt 512 128 inb_S1024x8x128_S512x8x128_128_0_0 (kMat m c) :=
      rows_of fun y => fetched (Memref.whole cc0_scratch3) (Memref.whole main_arg2) _ 512 128 _ y
    have hv1 : sound_body.sl.v187 m c = rowsAt 512 128 inb_S1024x8x128_S512x8x128_128_0_0 (vMat m c) :=
      rows_of fun y => fetched (Memref.whole cc0_scratch4) (Memref.whole main_arg3) _ 512 128 _ y
    have hk2 : sound_body.sl.v344 m c = rowsAt 512 384 inb_S1024x8x128_S512x8x128_384_0_0 (kMat m c) :=
      rows_of fun y => fetched (Memref.whole cc0_scratch3) (Memref.whole main_arg2) _ 512 384 _ y
    have hv2 : sound_body.sl.v347 m c = rowsAt 512 384 inb_S1024x8x128_S512x8x128_384_0_0 (vMat m c) :=
      rows_of fun y => fetched (Memref.whole cc0_scratch4) (Memref.whole main_arg3) _ 512 384 _ y
    have hk0 : sound_body.sl.v496 m c = rowsAt 384 0 inb_S1024x8x128_S384x8x128_0_0_0 (kMat m c) :=
      rows_of fun y => fetched (Memref.whole cc0_scratch3) (Memref.whole main_arg2) _ 384 0 _ y
    have hv0 : sound_body.sl.v501 m c = rowsAt 384 0 inb_S1024x8x128_S384x8x128_0_0_0 (vMat m c) :=
      rows_of fun y => fetched (Memref.whole cc0_scratch4) (Memref.whole main_arg3) _ 384 0 _ y
    have hk3 : sound_body.sl.v662 m c = rowsAt 384 640 inb_S1024x8x128_S384x8x128_640_0_0 (kMat m c) :=
      rows_of fun y => fetched (Memref.whole cc0_scratch3) (Memref.whole main_arg2) _ 384 640 _ y
    have hv3 : sound_body.sl.v667 m c = rowsAt 384 640 inb_S1024x8x128_S384x8x128_640_0_0 (vMat m c) :=
      rows_of fun y => fetched (Memref.whole cc0_scratch4) (Memref.whole main_arg3) _ 384 640 _ y
    have hb1 : sound_body.sl.v315 m c f0 f1 f2 = blk1 m c :=
      (pays1 (sound_body.sl.v183 c) (sound_body.sl.r_1 m c f0 f1) (sound_body.sl.v184 m c) (sound_body.sl.v187 m c) (sound_body.sl.v311 m c f2)).trans
        (blk1_of m c rfl hq hk1 hv1 ho1)
    have hb2 : k0_pay37 (sound_body.sl.r_23 m c f0 f1 f2) = blk2 m c :=
      (pays2 (sound_body.sl.v338 c) (sound_body.sl.v342 c) (sound_body.sl.r_1 m c f0 f1) (sound_body.sl.v344 m c) (sound_body.sl.v347 m c) (sound_body.sl.v311 m c f2)).trans
        (blk2_of m c rfl hq hk2 hv2 ho1)
    have hb0 := (pays0 (sound_body.sl.r_24 c) (sound_body.sl.r_1 m c f0 f1) (sound_body.sl.r_25 m c) (sound_body.sl.r_26 m c) (sound_body.sl.v627 m c f2)).trans
        (blk0_of m c rfl hq (congrArg₂ k0_pay39 hk0 (Memref.readAt_unit_zero (Elt F) cc0_scratch14 zeros₂ _ _))
          (congrArg₂ k0_pay40 hv0 (Memref.readAt_unit_zero (Elt F) cc0_scratch16 zeros₂ _ _)) ho0)
    have hb3 : sound_body.sl.v797 m c f0 f1 f2 = blk3 m c :=
      (pays3 (sound_body.sl.r_36 c) (sound_body.sl.r_1 m c f0 f1) (sound_body.sl.r_37 m c) (sound_body.sl.v667 m c) _ _ (sound_body.sl.v793 m c f2)).trans
        (blk3_of m c rfl hq (congrArg k0_pay52 hk3) hv3 (Memref.readAt_unit_zero (Elt F) cc0_scratch15 zeros₂ _ _) (Memref.readAt_unit_zero (Elt F) cc0_scratch17 zeros₂ _ _) ho3)
    iapply (out_all m c _ ((stage_read 0 _ _ _ _ _).trans hb0) ((stage_read 256 _ _ _ _ _).trans hb1)
      ((stage_read 512 _ _ _ _ _).trans hb2) ((stage_read 768 _ _ _ _ _).trans hb3))
    iexact Hout
  isplitl [HzB]; · iexact HzB
  isplitl [Hz0 Hz1 Hz2 Hz3 Hz4 Hz5 Hz6 Hz7 Hz8 Hz9 Hz10 Hz11 Hz12 Hz13 Hz14 Hz15 Hz16 Hz17 Hz18 Hs0 Hr0 Hs1 Hr1 Hs2 Hr2 Hs3 Hr3]
  · isplitl [Hz0]; · iexact Hz0
    isplitl [Hz1]; · iexact Hz1
    isplitl [Hz2]; · iexact Hz2
    isplitl [Hz3]; · iexact Hz3
    isplitl [Hz4]; · iexact Hz4
    isplitl [Hz5]; · iexact Hz5
    isplitl [Hz6]; · iexact Hz6
    isplitl [Hz7]; · iexact Hz7
    isplitl [Hz8]; · iexact Hz8
    isplitl [Hz9]; · iexact Hz9
    isplitl [Hz10]; · iexact Hz10
    isplitl [Hz11]; · iexact Hz11
    isplitl [Hz12]; · iexact Hz12
    isplitl [Hz13]; · iexact Hz13
    isplitl [Hz14]; · iexact Hz14
    isplitl [Hz15]; · iexact Hz15
    isplitl [Hz16]; · iexact Hz16
    isplitl [Hz17]; · iexact Hz17
    isplitl [Hz18]; · iexact Hz18
    isplitl [Hs0]; · iexact Hs0
    isplitl [Hs1]; · iexact Hs1
    isplitl [Hs2]; · iexact Hs2
    isplitl [Hs3]; · iexact Hs3
    isplitl [Hr0]; · iexact Hr0
    isplitl [Hr1]; · iexact Hr1
    isplitl [Hr2]; · iexact Hr2
    iexact Hr3
  isplitl [Hb0]; · iexists _; iexact Hb0
  isplitl [Hb1]; · iexists _; iexact Hb1
  isplitl [Hb2]; · iexists _; iexact Hb2
  isplitl [Hb3]; · iexists _; iexact Hb3
  isplitl [Hb4]; · iexists _; iexact Hb4
  isplitl [Hb5]; · iexists _; iexact Hb5
  isplitl [Hb6]; · iexists _; iexact Hb6
  isplitl [Hb7]; · iexists _; iexact Hb7
  isplitl [Hb8]; · iexists _; iexact Hb8
  isplitl [Hb9]; · iexists _; iexact Hb9
  isplitl [Hb10]; · iexists _; iexact Hb10
  isplitl [Hb11]; · iexists _; iexact Hb11
  isplitl [Hb12]; · iexists _; iexact Hb12
  isplitl [Hb13]; · iexists _; iexact Hb13
  isplitl [Hb14]; · iexists _; iexact Hb14
  isplitl [Hb15]; · iexists _; iexact Hb15
  isplitl [Hb16]; · iexists _; iexact Hb16
  iexists _; iexact Hb17

end Cert.Halo
-- ==== Proof.Deal.lean ====
/-
What each device starts with: the protocol's invariants, positions and tokens, and the units owed to it.

Every cell's tokens are made at the device that has the cell and then go to the device that pays: the tokens of a
barrier cell and of the receive cells to the neighbours, those of the send cells nowhere.
-/
module

public import proofs.«01_k».proof.Proof.Body

@[expose] public section

noncomputable section

namespace Cert.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
local notation "ownSems₀" => Pipeline.ownSems0 (Ix := Unit) (Name := ℕ) (U := UU) (Lvl := ℕ) (Val := Elt F) (τ := τ)

variable (m : (ℓ : Loc nD τ sig) → Buf (Elt F) ℓ)

/-- The kernel's own semaphores. -/
abbrev osem : Fin 27 → SemLoc sig := fun k => .dma k
theorem ownSemFacts : Pipeline.OwnSemFacts cfg0.spec osem := by decide

theorem kcell_injective : Function.Injective (kcell : Dev nD × Fin 9 → GSem nD τ sig) := fun p q h =>
  Prod.ext (congrArg (fun g : GSem nD τ sig => g.1.1) h) (csem_injective (congrArg Prod.snd h))
def allCells : Finset (GSem nD τ sig) := Finset.univ.map ⟨kcell, kcell_injective⟩

/-- A device's ten tokens: two of its barrier cell, one of every other cell. -/
abbrev tokCell : Fin 10 → Fin 9 := fun j => ⟨j.val - 1, by omega⟩
abbrev tokFlag : Fin 10 → Bool := fun j => decide (j = 1)
theorem tok_injective : Function.Injective fun j : Fin 10 => (tokCell j, tokFlag j) := by decide

abbrev tokOf (p : Dev nD × Fin 10) : GSem nD τ sig × ℕ × Bool := (kcell (p.1, tokCell p.2), 0, tokFlag p.2)
theorem tokOf_injective : Function.Injective tokOf := fun p q h => by
  have h1 := kcell_injective (congrArg Prod.fst h)
  have h2 : tokFlag p.2 = tokFlag q.2 := congrArg (fun x => x.2.2) h
  have h3 : p.1 = q.1 := congrArg (fun x : Dev nD × Fin 9 => x.1) h1
  have h4 : tokCell p.2 = tokCell q.2 := congrArg (fun x : Dev nD × Fin 9 => x.2) h1
  exact Prod.ext h3 (tok_injective (Prod.ext h4 h2))
def allToks : Finset (GSem nD τ sig × ℕ × Bool) := Finset.univ.map ⟨tokOf, tokOf_injective⟩

def u₀ : UU := (initOf (Pipeline.cells cfgs cellOf_inj) (Pipeline.launchToks cfgs cellOf_inj), (initOf allCells allToks, 1))

/-- The tokens of device `c`'s own cells. -/
def madeToks (c : Dev nD) : sProp 𝕄 :=
  iprop(dutyTok ER (barCell c) 0 false ∗ dutyTok ER (barCell c) 0 true
    ∗ dutyTok ER (sendCell 0 c) 0 false ∗ dutyTok ER (sendCell 1 c) 0 false ∗ dutyTok ER (sendCell 2 c) 0 false ∗ dutyTok ER (sendCell 3 c) 0 false
    ∗ dutyTok ER (recvCell 0 c) 0 false ∗ dutyTok ER (recvCell 1 c) 0 false ∗ dutyTok ER (recvCell 2 c) 0 false ∗ dutyTok ER (recvCell 3 c) 0 false)

/-- The tokens of the duties device `c` pays. -/
def payToks (c : Dev nD) : sProp 𝕄 :=
  iprop(dutyTok ER (barCell (nxt c)) 0 false ∗ dutyTok ER (barCell (prv c)) 0 true
    ∗ dutyTok ER (sendCell 0 c) 0 false ∗ dutyTok ER (sendCell 1 c) 0 false ∗ dutyTok ER (sendCell 2 c) 0 false ∗ dutyTok ER (sendCell 3 c) 0 false
    ∗ dutyTok ER (recvCell 0 (prv c)) 0 false ∗ dutyTok ER (recvCell 1 (nxt c)) 0 false ∗ dutyTok ER (recvCell 2 (prv c)) 0 false ∗ dutyTok ER (recvCell 3 (nxt c)) 0 false)

/-- What device `c` is dealt first, -/
def G (c : Dev nD) : sProp 𝕄 :=
  iprop((bigSep Finset.univ fun k : Fin 9 => roundState ER (rd m) (kcell (c, k)) 0)
    ∗ (bigSep Finset.univ fun k : Fin 9 => iprop(atPos ER (kcell (c, k)) 0 ∅ 0 ∗ reached ER (kcell (c, k)) 0)) ∗ madeToks c)
/-- and what it has when the cells' invariants stand. -/
def G' (c : Dev nD) : sProp 𝕄 := iprop((∃ K, ghost m K c) ∗ localSems c)

omit [FloatOps F] in
theorem bigSep_nine (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ
omit [FloatOps F] in
theorem bigSep_ten (Φ : Fin 10 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9) :=
  bigSep_univ_eq_bigSepL [0, 1, 2, 3, 4, 5, 6, 7, 8, 9] (by decide) (by decide) Φ

theorem fund : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Fin 9 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => madeToks c := by
    unfold allToks; rw [bigSep_map, bigSep_univ_prod]
    exact bigSep_congr fun c _ => by unfold madeToks; rw [bigSep_ten]; rfl
  iintro HX
  imod (Rounds.fund ER (rd m) allCells allToks) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem ownSems0_eq (c : Dev nD) : (ownSems₀ osem c : sProp 𝕄) = ownZero c := by
  rw [Pipeline.ownSems0_eq_of_list c osem [0, 1, 2, 3, 4, 5, 6, 7, 8, 9, 10, 11, 12, 13, 14, 15, 16, 17, 18, 19, 20, 21, 22, 23, 24, 25, 26] (by decide) (by decide)]; rfl
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- The semaphores at zero: the protocol's cells, and those of the local transfers. -/
theorem sems_split (c : Dev nD) :
    iprop(ownSems₀ osem c ∗ unscopedSems0 c) ⊢ (iprop((bigSep Finset.univ fun k : Fin 9 => semVal (kcell (c, k)) 0) ∗ localSems c) : sProp 𝕄) := by
  rw [ownSems0_eq, unscopedSems0_eq, bigSep_nine]
  unfold ownZero localSems
  iintro ⟨⟨Z0, Z1, Z2, Z3, Z4, Z5, Z6, Z7, Z8, Z9, Z10, Z11, Z12, Z13, Z14, Z15, Z16, Z17, Z18, S0, S1, S2, S3, R0, R1, R2, R3⟩, HB⟩
  isplitl [HB S0 S1 S2 S3 R0 R1 R2 R3]
  · isplitl [HB]; · iexact HB
    isplitl [S0]; · iexact S0
    isplitl [S1]; · iexact S1
    isplitl [S2]; · iexact S2
    isplitl [S3]; · iexact S3
    isplitl [R0]; · iexact R0
    isplitl [R1]; · iexact R1
    isplitl [R2]; · iexact R2
    iexact R3
  iframe

theorem core_alloc (c : Dev nD) :
    iprop(ownSems₀ osem c ∗ unscopedSems0 c ∗ G m c)
      ⊢ |={Set.univ}=> iprop((bigSep Finset.univ fun k => iprop(∃ κ : ℕ, cellInv ER (rd m) κ (kcell (c, k))))
          ∗ (bigSep Finset.univ fun k => iprop(atPos ER (kcell (c, k)) 0 ∅ 0 ∗ reached ER (kcell (c, k)) 0)) ∗ madeToks c ∗ localSems c) := by
  unfold G
  iintro ⟨Hos, Hus, Hst, Hat, Htok⟩
  ihave Hv := (sems_split (F := F) c) $$ [Hos Hus]
  · isplitl [Hos] <;> iassumption
  icases Hv with ⟨Hv, Hl⟩
  imod (show iprop((bigSep Finset.univ fun k : Fin 9 => semVal (kcell (c, k)) 0) ∗ bigSep Finset.univ fun k : Fin 9 => roundState ER (rd m) (kcell (c, k)) 0)
      ⊢ (|={Set.univ}=> bigSep Finset.univ fun k => iprop(∃ κ : ℕ, cellInv ER (rd m) κ (kcell (c, k))) : sProp 𝕄) from by
        rw [← bigSep_sep']
        exact (bigSep_mono fun k _ => (Rounds.body_intro ER (rd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

/-- What every device may know: the cells' invariants, and that every cell has reached round 0. -/
def records (K : Dev nD × Fin 9 → ℕ) : sProp 𝕄 :=
  iprop((bigSep Finset.univ fun ck : Dev nD × Fin 9 => cellInv ER (rd m) (K ck) (kcell ck))
    ∗ bigSep Finset.univ fun ck : Dev nD × Fin 9 => reached ER (kcell ck) 0)
instance records_persistent (K : Dev nD × Fin 9 → ℕ) : BI.Persistent (records m K) := by unfold records; infer_instance

theorem inv_at (K : Dev nD × Fin 9 → ℕ) (ck : Dev nD × Fin 9) : records m K ⊢ cellInv ER (rd m) (K ck) (kcell ck) := by
  unfold records
  iintro ⟨H, -⟩
  iapply (show (bigSep Finset.univ fun ck : Dev nD × Fin 9 => (cellInv ER (rd m) (K ck) (kcell ck) : sProp 𝕄)) ⊢ cellInv ER (rd m) (K ck) (kcell ck) from bigSep_elim (Finset.mem_univ ck))
  iexact H
theorem reached_at (K : Dev nD × Fin 9 → ℕ) (ck : Dev nD × Fin 9) : records m K ⊢ reached ER (kcell ck) 0 := by
  unfold records
  iintro ⟨-, H⟩
  iapply (show (bigSep Finset.univ fun ck : Dev nD × Fin 9 => (reached ER (kcell ck) 0 : sProp 𝕄)) ⊢ reached ER (kcell ck) 0 from bigSep_elim (Finset.mem_univ ck))
  iexact H

/-- A token with what is known of its cell. -/
theorem sig_intro (K : Dev nD × Fin 9 → ℕ) (d : Dev nD) (b : Bool) :
    iprop(records m K ∗ dutyTok ER (barCell d) 0 b) ⊢ iprop(cellInv ER (rd m) (K (d, 0)) (barCell d) ∗ dutyTok ER (barCell d) 0 b ∗ reached ER (barCell d) 0) := by
  iintro ⟨#HR, Ht⟩
  isplitr; · iapply (inv_at m K (d, 0)); iexact HR
  isplitl [Ht]; · iexact Ht
  iapply (reached_at m K (d, 0)); iexact HR

theorem kcell_send (c : Dev nD) (j : Fin 4) : kcell (c, ⟨1 + j.val, by omega⟩) = sendCell j c := by unfold kcell; rw [csem_send]
theorem kcell_recv (c : Dev nD) (j : Fin 4) : kcell (c, ⟨5 + j.val, by omega⟩) = recvCell j c := by unfold kcell; rw [csem_recv]

theorem ticket_intro (K : Dev nD × Fin 9 → ℕ) (c n : Dev nD) (j : Fin 4) :
    iprop(records m K ∗ dutyTok ER (sendCell j c) 0 false ∗ dutyTok ER (recvCell j n) 0 false) ⊢ ticket m K c n j := by
  have h1 := inv_at m K (c, ⟨1 + j.val, by omega⟩)
  have h2 := inv_at m K (n, ⟨5 + j.val, by omega⟩)
  have h3 := reached_at m K (c, ⟨1 + j.val, by omega⟩)
  have h4 := reached_at m K (n, ⟨5 + j.val, by omega⟩)
  rw [kcell_send] at h1 h3
  rw [kcell_recv] at h2 h4
  unfold ticket
  iintro ⟨#HR, Hs, Hr⟩
  isplitr; · iapply h1; iexact HR
  isplitr; · iapply h2; iexact HR
  isplitl [Hs]; · iexact Hs
  isplitr; · iapply h3; iexact HR
  isplitl [Hr]; · iexact Hr
  iapply h4; iexact HR

theorem atSend_intro (K : Dev nD × Fin 9 → ℕ) (c : Dev nD) (j : Fin 4) : iprop(records m K ∗ atPos ER (sendCell j c) 0 ∅ 0) ⊢ atSend m K c j := by
  have h1 := inv_at m K (c, ⟨1 + j.val, by omega⟩)
  rw [kcell_send] at h1
  unfold atSend
  iintro ⟨#HR, Hs⟩
  isplitr; · iapply h1; iexact HR
  iexact Hs
theorem atRecv_intro (K : Dev nD × Fin 9 → ℕ) (c : Dev nD) (j : Fin 4) : iprop(records m K ∗ atPos ER (recvCell j c) 0 ∅ 0) ⊢ atRecv m K c j := by
  have h1 := inv_at m K (c, ⟨5 + j.val, by omega⟩)
  rw [kcell_recv] at h1
  unfold atRecv
  iintro ⟨#HR, Hs⟩
  isplitr; · iapply h1; iexact HR
  iexact Hs

/-- What only device `c` has: its positions, the tokens of its duties, and its local semaphores. -/
def linear (c : Dev nD) : sProp 𝕄 :=
  iprop((bigSep Finset.univ fun k : Fin 9 => atPos ER (kcell (c, k)) 0 ∅ 0) ∗ payToks c ∗ localSems c)

theorem ghost_intro (K : Dev nD × Fin 9 → ℕ) (c : Dev nD) : iprop(records m K ∗ linear c) ⊢ G' m c := by
  unfold linear payToks G' ghost sigL sigR
  rw [bigSep_nine]
  iintro ⟨#HR, ⟨A0, A1, A2, A3, A4, A5, A6, A7, A8⟩, ⟨TN, TP, S0, S1, S2, S3, R0, R1, R2, R3⟩, Hl⟩
  isplitr [Hl]
  swap; · iexact Hl
  iexists K
  isplitl [TN TP A0]
  · isplitl [TP]; · iapply (sig_intro m K (prv c) true); isplitr; · iexact HR
                    iexact TP
    isplitl [TN]; · iapply (sig_intro m K (nxt c) false); isplitr; · iexact HR
                    iexact TN
    isplitr; · iapply (inv_at m K (c, 0)); iexact HR
    iexact A0
  isplitl [S0 S1 S2 S3 R0 R1 R2 R3]
  · isplitl [S0 R0]; · iapply (ticket_intro m K c (prv c) 0); isplitr; · iexact HR
                       isplitl [S0] <;> iassumption
    isplitl [S2 R2]; · iapply (ticket_intro m K c (prv c) 2); isplitr; · iexact HR
                       isplitl [S2] <;> iassumption
    isplitl [S1 R1]; · iapply (ticket_intro m K c (nxt c) 1); isplitr; · iexact HR
                       isplitl [S1] <;> iassumption
    iapply (ticket_intro m K c (nxt c) 3); isplitr; · iexact HR
    isplitl [S3] <;> iassumption
  isplitl [A5 A6 A7 A8]
  · isplitl [A5]; · iapply (atRecv_intro m K c 0); isplitr; · iexact HR
                    iexact A5
    isplitl [A6]; · iapply (atRecv_intro m K c 1); isplitr; · iexact HR
                    iexact A6
    isplitl [A7]; · iapply (atRecv_intro m K c 2); isplitr; · iexact HR
                    iexact A7
    iapply (atRecv_intro m K c 3); isplitr; · iexact HR
    iexact A8
  · isplitl [A1]; · iapply (atSend_intro m K c 0); isplitr; · iexact HR
                    iexact A1
    isplitl [A2]; · iapply (atSend_intro m K c 1); isplitr; · iexact HR
                    iexact A2
    isplitl [A3]; · iapply (atSend_intro m K c 2); isplitr; · iexact HR
                    iexact A3
    iapply (atSend_intro m K c 3); isplitr; · iexact HR
    iexact A4

omit [FloatOps F] in
/-- The tokens passed around: seen from the device that made a token, the payer is a neighbour. -/
theorem toks_around : (bigSep Finset.univ fun c : Dev nD => (madeToks c : sProp 𝕄)) ⊢ bigSep Finset.univ fun c : Dev nD => payToks c := by
  unfold madeToks payToks
  simp only [bigSep_sep']
  rw [bigSep_univ_equiv ring (fun c : Dev nD => (dutyTok ER (barCell c) 0 false : sProp 𝕄)),
    bigSep_univ_equiv ring.symm (fun c : Dev nD => (dutyTok ER (barCell c) 0 true : sProp 𝕄)),
    bigSep_univ_equiv ring.symm (fun c : Dev nD => (dutyTok ER (recvCell 0 c) 0 false : sProp 𝕄)),
    bigSep_univ_equiv ring (fun c : Dev nD => (dutyTok ER (recvCell 1 c) 0 false : sProp 𝕄)),
    bigSep_univ_equiv ring.symm (fun c : Dev nD => (dutyTok ER (recvCell 2 c) 0 false : sProp 𝕄)),
    bigSep_univ_equiv ring (fun c : Dev nD => (dutyTok ER (recvCell 3 c) 0 false : sProp 𝕄))]
  exact BI.Entails.refl _

omit [FloatOps F] in
theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (rd m) κ (kcell (c, k))))
          ∗ (bigSep Finset.univ fun k => iprop(atPos ER (kcell (c, k)) 0 ∅ 0 ∗ reached ER (kcell (c, k)) 0)) ∗ madeToks c ∗ localSems c) : sProp 𝕄)
      ⊢ bigSep Finset.univ (G' m) := by
  rw [bigSep_sep', bigSep_sep', bigSep_sep', ← bigSep_univ_prod (fun ck : Dev nD × Fin 9 => iprop(∃ κ : ℕ, cellInv ER (rd m) κ (kcell ck))),
    bigSep_congr (s := Finset.univ) (fun (c : Dev nD) _ => bigSep_sep' Finset.univ (fun k : Fin 9 => (atPos ER (kcell (c, k)) 0 ∅ 0 : sProp 𝕄)) (fun k => reached ER (kcell (c, k)) 0)),
    bigSep_sep', ← bigSep_univ_prod (fun ck : Dev nD × Fin 9 => (reached ER (kcell ck) 0 : sProp 𝕄))]
  iintro ⟨HI, ⟨Hat, #HR⟩, Htok, Hl⟩
  ihave HK := (BI.bigSep_exists_pi Finset.univ (fun (ck : Dev nD × Fin 9) (κ : ℕ) => (cellInv ER (rd m) κ (kcell ck) : sProp 𝕄))) $$ HI
  icases HK with ⟨%K, #HI⟩
  ihave Htk := (toks_around (F := F)) $$ Htok
  iapply (bigSep_with (R := records m K) fun c _ => ghost_intro m K c)
  isplitr
  · unfold records; isplitl; · iexact HI
    iexact HR
  · unfold linear
    simp only [bigSep_sep']
    isplitl [Hat]; · iexact Hat
    isplitl [Htk] <;> iassumption

theorem deal : (bigSep Finset.univ fun c => iprop(ownSems₀ osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The units owed at launch -/

/-- A neighbour's cell `s` is owed `n` by a device on which `P` holds: read at device `c`'s cell `s'`. -/
theorem owed_at (σ : Dev nD ≃ Dev nD) (P : Dev nD → Prop) [DecidablePred P] (s : SemLoc sig) (n : ℕ) (c : Dev nD) (s' : SemLoc sig) (d : Dev nD) :
    (if P d then (tallyAt ((σ d : Thread nD τ), s) () n : Ow) else 0) ((c : Thread nD τ), s') ()
      = if d = σ.symm c then (if s' = s ∧ P (σ.symm c) then n else 0) else 0 := by
  by_cases hd : d = σ.symm c
  · subst hd
    rw [if_pos rfl]
    by_cases hP : P (σ.symm c)
    · rw [if_pos hP, tallyAt_apply]
      by_cases hs : s' = s
      · rw [if_pos ⟨by rw [hs, Equiv.apply_symm_apply], rfl⟩, if_pos ⟨hs, hP⟩]
      · rw [if_neg fun h => hs (congrArg Prod.snd h.1), if_neg fun h => hs h.1]
    · rw [if_neg hP, if_neg fun h => hP h.2]; rfl
  · rw [if_neg hd]
    by_cases hP : P d
    · rw [if_pos hP, tallyAt_apply, if_neg]
      intro h
      have h1 : c = σ d := congrArg (fun g : GSem nD τ sig => g.1.1) h.1
      exact hd (by rw [h1, Equiv.symm_apply_apply])
    · rw [if_neg hP]; rfl

theorem owed_sum (σ : Dev nD ≃ Dev nD) (P : Dev nD → Prop) [DecidablePred P] (s : SemLoc sig) (n : ℕ) (c : Dev nD) (s' : SemLoc sig) :
    ∑ d, (if P d then (tallyAt ((σ d : Thread nD τ), s) () n : Ow) else 0) ((c : Thread nD τ), s') () = if s' = s ∧ P (σ.symm c) then n else 0 := by
  rw [Finset.sum_congr rfl fun d _ => owed_at σ P s n c s' d, Finset.sum_ite_eq' Finset.univ (σ.symm c), if_pos (Finset.mem_univ _)]

/-- All that is owed to device `c`'s cell `s`. -/
theorem owed_all (c : Dev nD) (s : SemLoc sig) :
    ∑ d, O₀ d ((c : Thread nD τ), s) ()
      = (if s = .dma (recvS 3) ∧ hasL c then N else 0) + (if s = .dma (recvS 1) ∧ hasL c then N else 0)
        + ((if s = .dma (recvS 2) ∧ hasR c then N else 0) + (if s = .dma (recvS 0) ∧ hasR c then N else 0))
        + (if s = .reg barS ∧ hasL c then 1 else 0) + (if s = .reg barS ∧ hasR c then 1 else 0) := by
  have h (d : Dev nD) : O₀ d = (if hasR d then (tallyAt (recvCell 3 (nxt d)) () N : Ow) else 0) + (if hasR d then (tallyAt (recvCell 1 (nxt d)) () N : Ow) else 0)
      + ((if hasL d then (tallyAt (recvCell 2 (prv d)) () N : Ow) else 0) + (if hasL d then (tallyAt (recvCell 0 (prv d)) () N : Ow) else 0))
      + (if hasR d then (tallyAt (barCell (nxt d)) () 1 : Ow) else 0) + (if hasL d then (tallyAt (barCell (prv d)) () 1 : Ow) else 0) := by
    unfold O₀ O₁ owSendR owSendL owSigR owSigL
    split <;> split <;> simp only [add_zero]
  simp only [h, Pi.add_apply, Finsupp.add_apply, Finset.sum_add_distrib]
  have hR (s₀ : SemLoc sig) (n : ℕ) := owed_sum ring hasR s₀ n c s
  have hL (s₀ : SemLoc sig) (n : ℕ) := owed_sum ring.symm hasL s₀ n c s
  have e1 : hasR (ring.symm c) = hasL c := propext (hasR_prv c)
  have e2 : hasL (ring.symm.symm c) = hasR c := propext (hasL_nxt c)
  simp only [e1] at hR
  simp only [e2] at hL
  exact congrArg₂ (· + ·) (congrArg₂ (· + ·) (congrArg₂ (· + ·) (congrArg₂ (· + ·) (hR _ _) (hR _ _)) (congrArg₂ (· + ·) (hL _ _) (hL _ _))) (hR _ _)) (hL _ _)

theorem launch_at (c : Dev nD) (s : SemLoc sig) (n : ℕ) (h : ∑ d, O₀ d ((c : Thread nD τ), s) () = n) :
    tallyOn ((c : Thread nD τ), s) (launchCredit (Pipeline.owing O₀) 0 ((c : Thread nD τ), s)) = (tallyAt ((c : Thread nD τ), s) () n : Ow) := by
  unfold tallyAt; refine congrArg _ (Finsupp.ext fun u => ?_); cases u
  rw [Pipeline.launchCredit_owing, Finsupp.single_eq_same, h]

theorem owed_bar (c : Dev nD) : ∑ d, O₀ d (barCell c) () = nb c := by
  rw [owed_all]
  have h (j : Fin 4) (P : Prop) : ¬ ((SemLoc.reg barS : SemLoc sig) = .dma (recvS j) ∧ P) := fun h => by cases h.1
  simp only [h, if_false, true_and, zero_add]; rfl

theorem recv_eq_iff : ∀ j i : Fin 4, (SemLoc.dma (recvS j) : SemLoc sig) = .dma (recvS i) ↔ j = i := by decide

theorem owed_recv (j : Fin 4) (c : Dev nD) : ∑ d, O₀ d (recvCell j c) () = if recvs c j then N else 0 := by
  rw [owed_all]
  have h (P : Prop) : ¬ ((SemLoc.dma (recvS j) : SemLoc sig) = .reg barS ∧ P) := fun h => by cases h.1
  have h2 (i : Fin 4) : ((SemLoc.dma (recvS j) : SemLoc sig) = .dma (recvS i)) = (j = i) := propext (recv_eq_iff j i)
  simp only [h, h2, if_false, add_zero]
  fin_cases j <;> simp [recvs]

theorem creds (c : Dev nD) : (Pipeline.launchCred O₀ c : sProp 𝕄) ⊢ credits c := by
  unfold Pipeline.launchCred credits credRecv
  refine (bigSep_subset (Finset.subset_univ ({.reg barS, .dma (recvS 0), .dma (recvS 1), .dma (recvS 2), .dma (recvS 3)} : Finset (SemLoc sig)))).trans ?_
  rw [bigSep_eq_bigSepL_of_eq [.reg barS, .dma (recvS 0), .dma (recvS 1), .dma (recvS 2), .dma (recvS 3)] (by decide) (by decide)]
  simp only [bigSepL_cons_cons, bigSepL_singleton]
  rw [launch_at c _ _ (owed_bar c), launch_at c _ _ (owed_recv 0 c), launch_at c _ _ (owed_recv 1 c), launch_at c _ _ (owed_recv 2 c), launch_at c _ _ (owed_recv 3 c)]
  exact BI.Entails.refl _

end Cert.Halo

end
-- ==== Proof.Run.lean ====
/-
The launch: what the kernel starts from, its body as the library asks for it, and the run of the whole program.
-/
module

public import proofs.«01_k».proof.Proof.Deal
public import Idealize.ShloMosaic.Lib.Pipeline.CollectiveSegs

@[expose] public section

noncomputable section

namespace Cert.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
local notation "ownSems₀" => Pipeline.ownSems0 (Ix := Unit) (Name := ℕ) (U := UU) (Lvl := ℕ) (Val := Elt F) (τ := τ)

variable (m : (ℓ : Loc nD τ sig) → Buf (Elt F) ℓ) (ρ : Dev nD → PrngReg)

/-- What device `c` has before the kernel, apart from the scratch buffers; -/
def start (c : Dev nD) : sProp 𝕄 :=
  iprop((∃ K, ghost m K c) ∗ credits c ∗ levAts L lv ∗ localSems c ∗ argsHeld m c ∗ held c main_v1 (m ((c : Thread nD τ).loc main_v1)))
/-- with them, as the kernel starts; -/
def before (c : Dev nD) : sProp 𝕄 := iprop(start m c ∗ scratchLow c ∗ landL c ∗ landR c)

/-- The kernel as the launch library describes it: no windows, one step. -/
def dats (_ : Fin 1) (c : Dev nD) : Dat τ (Elt F) Unit ℕ UU ℕ cfg0 c where
  A w := (s₀ m ρ).mem ((cfg0.win w).arr.view.loc (c : Thread nD τ))
  after w _ := w.elim0
  Φ t := match t with
    | ⟨0, _⟩ => before m c
    | ⟨_ + 1, _⟩ => bodyPost m c
  q _ := fullShare
  owed t := match t with
    | ⟨0, _⟩ => O₀ c
    | ⟨_ + 1, _⟩ => 0

/-- There are no windows to hold. -/
theorem no_windows (Φ : Fin cfg0.W → sProp 𝕄) : bigSep Finset.univ Φ = iprop(emp) := by
  rw [show (Finset.univ : Finset (Fin cfg0.W)) = ∅ from Finset.univ_eq_empty (α := Fin 0), bigSep_empty]; rfl

/-- Before the one step, -/
def startPre (c : Dev nD) : sProp 𝕄 := iprop(before m c ∗ (dats m ρ 0 c).owesAt () t0_0.castSucc ∗ emp)
/-- and after it. -/
def finPost (c : Dev nD) : sProp 𝕄 := iprop(bodyPost m c ∗ (dats m ρ 0 c).owesAt () t0_0.succ ∗ emp)

/-- The body’s end is the step’s. -/
theorem fin_intro (c : Dev nD) : iprop(bodyPost m c ∗ ∃ W', owes (c : Thread nD τ) 0 W') ⊢ finPost m ρ c := by
  unfold finPost Dat.owesAt Pipeline.owesWithin
  iintro ⟨Hp, ⟨%W', HO⟩⟩
  isplitl [Hp]; · iexact Hp
  isplitl; swap; · iempintro
  iexists W'
  isplitr; · ipureintro; exact fun _ _ => Or.inl trivial
  iexact HO

set_option maxRecDepth 4000 in
theorem body_obligation (c : Dev nD) : BodyObligation (dats (F := F) m ρ 0 c) (defs₀ (F := F)) 𝒱₀ () Set.univ := fun t => by
  rw [fin_N0 t, no_windows, no_windows]
  show startPre m ρ c ⊢ wp frame (wpE (defs₀ (F := F)) 𝒱₀ c none) Set.univ theBody (fun _ => finPost m ρ c)
  unfold startPre before start Dat.owesAt Pipeline.owesWithin
  iintro ⟨⟨⟨⟨%K, Hg⟩, Hcr, Hlev, Hl, Ha, Hv⟩, Hs, HlL, HlR⟩, ⟨%W, -, HO⟩, -⟩
  iapply ((sound_body m K c W).trans (wp_mono _ _ _ fun _ => fin_intro m ρ c))
  unfold bodyPre
  isplitr [HO]
  swap; · iexact HO
  isplitl [Hg]; · iexact Hg
  isplitl [Hcr]; · iexact Hcr
  isplitl [Hlev]; · iexact Hlev
  isplitl [Hl]; · iexact Hl
  isplitl [Ha]; · iexact Ha
  isplitl [Hv]; · iexact Hv
  isplitl [Hs]; · iexact Hs
  isplitl [HlL] <;> iassumption

/-- What the launch deals is where the kernel starts. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  unfold start G' argsHeld
  iintro ⟨⟨H0, H1, H2, H3, H4, H5⟩, Hlev, Hcr, -, Hg, Hl⟩
  ihave Hc := (creds (F := F) c) $$ Hcr
  imodintro
  isplitl; swap; · iempintro
  isplitl [Hg]; · iexact Hg
  isplitl [Hc]; · iexact Hc
  isplitl [Hlev]; · iexact Hlev
  isplitl [Hl]; · iexact Hl
  isplitl [H0 H1 H2 H3 H4]
  · isplitl [H0]; · iexact H0
    isplitl [H1]; · iexact H1
    isplitl [H2]; · iexact H2
    isplitl [H3]; · iexact H3
    iexact H4
  iexact H5

/-- With the scratch buffers, it is what the body starts from. -/
theorem before_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = before m c from rfl, scopedRest0_eq]
  unfold before scratchLow landL landR
  iintro ⟨Hs, -, ⟨B0, B1, B2, B3, B4, B5, B6, B7, B8, B9, B10, B11, B12, B13, B14, B15, B16, B17⟩⟩
  isplitl [Hs]; · iexact Hs
  isplitl [B0 B1 B2 B3 B4 B5 B6 B7 B8 B9 B10 B11 B12 B13]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [B11]; · iexact B11
    isplitl [B12]; · iexact B12
    iexact B13
  isplitl [B14 B16]
  · isplitl [B14]; · iexact B14
    iexact B16
  isplitl [B15]; · iexact B15
  iexact B17

/-- What is left to read when the kernel has ended. -/
def ended (c : Dev nD) : sProp 𝕄 := iprop((argsHeld m c ∗ outHeld m c) ∗ unscopedSems0 c)

/-- What is left gives back all that the launch lent. -/
theorem post_exit (c : Dev nD) :
    (dats m ρ 0 c).Φ (Fin.last cfg0.N) ⊢ iprop(ended m c ∗ ownSems₀ osem c ∗ Pipeline.scopedRest cfg0.spec c) := by
  rw [show (dats m ρ 0 c).Φ (Fin.last cfg0.N) = bodyPost m c from rfl, scopedRest0_eq, ownSems0_eq]
  unfold ended bodyPost
  rw [unscopedSems0_eq]
  iintro ⟨Ha, Ho, Hz, Hs, Hb⟩
  isplitl [Ha Ho Hz]
  · isplitl [Ha Ho]
    · isplitl [Ha] <;> iassumption
    iexact Hz
  isplitl [Hs]; · iexact Hs
  unfold scratchAll
  iexact Hb

/-- The launch library’s own waits: with no windows there are none. -/
theorem waits (c : Dev nD) : (levAts L lv : sProp 𝕄) ⊢ Pipeline.cellsWaits cfgs (dats m ρ) () 0 c :=
  Pipeline.cellsWaits_intro cfgs (dats m ρ) () 0 c fun w => w.elim0

/-- What a final memory shows of device `c`. -/
def Shows (c : Dev nD) (s : MemSt nD τ sig (Elt F)) : Prop :=
  (s.mem ((c : Thread nD τ).loc main_arg0) = m ((c : Thread nD τ).loc main_arg0) ∧ s.mem ((c : Thread nD τ).loc main_arg1) = m ((c : Thread nD τ).loc main_arg1)
    ∧ s.mem ((c : Thread nD τ).loc main_arg2) = m ((c : Thread nD τ).loc main_arg2) ∧ s.mem ((c : Thread nD τ).loc main_arg3) = m ((c : Thread nD τ).loc main_arg3)
    ∧ s.mem ((c : Thread nD τ).loc main_arg4) = m ((c : Thread nD τ).loc main_arg4))
  ∧ OutOK m c (s.mem ((c : Thread nD τ).loc main_v1))

/-- A buffer held whole is what the memory has there. -/
theorem read_held (c : Dev nD) (b : Ref sig .tc) (f : Buf (Elt F) ((c : Thread nD τ).loc b)) (s' : Phys nD τ sig (Elt F)) :
    iprop(SI s' ∗ held c b f) ⊢ (iprop(⌜s'.mem.mem ((c : Thread nD τ).loc b) = f⌝) : sProp 𝕄) :=
  (SI_pointsTo_agree).trans (BI.pure_mono fun h => funext fun i => h i (Finset.mem_univ i))

/-- The result array read at the end is right. -/
theorem ended_read (c : Dev nD) (s' : Phys nD τ sig (Elt F)) :
    iprop(ended m c ∗ emp ∗ SI s') ⊢ |={Set.univ}=> iprop(⌜Shows m c s'.mem ∧ ∀ sm : SemLoc sig, sm.isScoped .tc = false → s'.mem.sem ((c.tc : Thread nD τ), sm) = 0⌝ ∗ SI s') := by
  unfold ended argsHeld outHeld
  iintro ⟨⟨⟨⟨H0, H1, H2, H3, H4⟩, ⟨%g, %hg, Ho⟩⟩, Hz⟩, -, HSI⟩
  ihave %h0 := (read_held c main_arg0 _ s') $$ [HSI H0]
  · isplitl [HSI] <;> iassumption
  ihave %h1 := (read_held c main_arg1 _ s') $$ [HSI H1]
  · isplitl [HSI] <;> iassumption
  ihave %h2 := (read_held c main_arg2 _ s') $$ [HSI H2]
  · isplitl [HSI] <;> iassumption
  ihave %h3 := (read_held c main_arg3 _ s') $$ [HSI H3]
  · isplitl [HSI] <;> iassumption
  ihave %h4 := (read_held c main_arg4 _ s') $$ [HSI H4]
  · isplitl [HSI] <;> iassumption
  ihave %ho := (read_held c main_v1 _ s') $$ [HSI Ho]
  · isplitl [HSI] <;> iassumption
  imod (Pipeline.unscopedSems0_read (X := unscopedSems0 c) (c := c) fupd_intro s') $$ [Hz HSI] with ⟨%hz, HSI⟩
  · isplitl [Hz] <;> iassumption
  imodintro
  isplitr
  · ipureintro; exact ⟨⟨⟨h0, h1, h2, h3, h4⟩, by rw [ho]; exact hg⟩, hz⟩
  iexact HSI

set_option maxRecDepth 8000 in
/-- For any float values, from any memory with zero counters: every fair execution ends, with the arguments as they
    were, every counter at zero and the result array as `OutOK` says. -/
theorem run_main : θ_run defs (onTc (τ := τ) (main (F := F))) (s₀ m ρ) (fun r => (∀ c, Shows m c r.2) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      ihave HX := (show BI.own (embR (initOf allCells allToks, (1 : Counters))) ⊢ (BI.own (ER (initOf allCells allToks)) : sProp 𝕄) from BI.Entails.refl _) $$ HX
      imod (fund m) $$ HX with HG
      imodintro
      isplitl [HP] <;> iassumption)
    (hglob := deal m)
    (hA := fun _ _ => rfl) (hpf := fun _ k => k.elim0)
    (X := start m) (Y := ended m) (Z := fun _ => iprop(emp))
    (hX := start_intro m ρ) (hin := before_intro m ρ) (hout := post_exit m ρ)
    (QY := fun c s => Shows m c s ∧ ∀ sm : SemLoc sig, sm.isScoped .tc = false → s.sem ((c.tc : Thread nD τ), sm) = 0)
    (hY := ended_read m)
    (hQ := fun _ h hs => ⟨fun c => (h c).2.2.1, sem_eq_zero hs fun c => (h c).2.2.2⟩)

end Cert.Halo

end
-- ==== Proof.Math.lean ====
module

public import Idealize.ShloMosaic.Lib.Pointwise
public import Idealize.ShloMosaic.Lib.FinSumWindow
public import Idealize.ShloMosaic.Lib.IdealHost

@[expose] public section

noncomputable section

namespace Cert.Halo.Math

open Idealize.ShloMosaic

/-! ## Sums over a window -/

/-- A sum over all 8192 keys whose terms vanish outside a window of 512 (which may overhang by 128 at either end) is the window's sum. -/
theorem window_sum {R : Type*} [AddCommMonoid R] (lo : ℕ) (hlo : lo + 512 ≤ 8448) (f : Fin 8192 → R) (g : Fin 512 → R)
    (hf : ∀ u : Fin 8192, ¬(lo ≤ u.val + 128 ∧ u.val + 128 < lo + 512) → f u = 0)
    (hin : ∀ (j : Fin 512) (u : Fin 8192), u.val + 128 = lo + j.val → g j = f u)
    (hout : ∀ j : Fin 512, (∀ u : Fin 8192, u.val + 128 ≠ lo + j.val) → g j = 0) :
    ∑ j, g j = ∑ u, f u := by
  let e : Fin 8448 → R := fun p => if h : 128 ≤ p.val ∧ p.val < 8320 then f ⟨p.val - 128, by omega⟩ else 0
  have h1 : ∑ p, e p = ∑ u, f u := by
    refine (Idealize.ShloMosaic.FinSumWindow.sum_window (N := 8448) (W := 8192) 128 (by omega) e ?_).trans (Finset.sum_congr rfl fun u _ => ?_)
    · intro P h; exact dif_neg (by omega)
    · have hu := u.isLt
      refine (dif_pos ⟨by simp, by simp; omega⟩).trans (congrArg f (Fin.ext (by simp)))
  have h2 : ∑ p, e p = ∑ j, g j := by
    refine (Idealize.ShloMosaic.FinSumWindow.sum_window (N := 8448) (W := 512) lo hlo e ?_).trans (Finset.sum_congr rfl fun j _ => ?_)
    · intro P h
      by_cases hP : 128 ≤ P.val ∧ P.val < 8320
      · exact (dif_pos hP).trans (hf _ (by simp only; omega))
      · exact dif_neg hP
    · by_cases hP : 128 ≤ lo + j.val ∧ lo + j.val < 8320
      · refine (dif_pos hP).trans (hin j _ ?_).symm
        show lo + j.val - 128 + 128 = lo + j.val
        omega
      · refine (dif_neg hP).trans (hout j fun u => ?_).symm
        have := u.isLt
        omega
  exact h2.symm.trans h1

/-! ## The softmax -/

/-- A sum of reals is real. -/
theorem coe_sum {ι : Type*} (s : Finset ι) (r : ι → ℝ) : ∑ i ∈ s, ((r i : ℝ) : EReal) = ((∑ i ∈ s, r i : ℝ) : EReal) := by
  classical
  induction s using Finset.induction_on with
  | empty => simp
  | insert a s ha ih => rw [Finset.sum_insert ha, Finset.sum_insert ha, ih, EReal.coe_add]

/-- A nonnegative real multiplies through a sum. -/
theorem real_mul_sum {ι : Type*} (s : Finset ι) (c : ℝ) (hc : 0 ≤ c) (x : ι → EReal) : (c : EReal) * ∑ i ∈ s, x i = ∑ i ∈ s, (c : EReal) * x i := by
  classical
  induction s using Finset.induction_on with
  | empty => simp
  | insert a s ha ih =>
    rw [Finset.sum_insert ha, Finset.sum_insert ha, ← ih]
    exact EReal.left_distrib_of_nonneg_of_ne_top (EReal.coe_nonneg.mpr hc) (EReal.coe_ne_top c) _ _

/-- Division by a nonzero real is multiplication by its inverse. -/
theorem div_real (x : EReal) (y : ℝ) (hy : y ≠ 0) : Ideal.div x (y : EReal) = x * ((y⁻¹ : ℝ) : EReal) := by
  unfold Ideal.div
  rw [if_neg (by simpa using hy), ← EReal.coe_inv]

/-- A maximum, over a nonempty band, of real scores with `⊥` elsewhere is real. -/
theorem max_real {ι : Type*} (s : Finset ι) (P : ι → Prop) [DecidablePred P] (r : ι → ℝ) :
    (Finset.fold max (⊥ : EReal) (fun u => if P u then ((r u : ℝ) : EReal) else ⊥) s = ⊥ ∧ ∀ u ∈ s, ¬ P u)
      ∨ ∃ M : ℝ, Finset.fold max (⊥ : EReal) (fun u => if P u then ((r u : ℝ) : EReal) else ⊥) s = (M : EReal) := by
  classical
  induction s using Finset.induction_on with
  | empty => exact .inl ⟨rfl, by simp⟩
  | insert a s ha ih =>
    rw [Finset.fold_insert ha]
    by_cases hP : P a
    · rw [if_pos hP]
      right
      rcases ih with ⟨e, _⟩ | ⟨M, e⟩
      · exact ⟨r a, by rw [e]; simp⟩
      · exact ⟨max (r a) M, by rw [e]; exact (EReal.coe_strictMono.monotone.map_max).symm⟩
    · rw [if_neg hP]
      rcases ih with ⟨e, h⟩ | ⟨M, e⟩
      · refine .inl ⟨by rw [e]; simp, fun u hu => ?_⟩
        rcases Finset.mem_insert.mp hu with rfl | hu
        · exact hP
        · exact h u hu
      · exact .inr ⟨M, by rw [e]; simp⟩

/-- The softmax over a band, with its maximum taken off and its weights normalised before they meet the values, is the plain ratio of sums of exponentials. -/
theorem softmax_band {ι : Type*} [Fintype ι] (P : ι → Prop) [DecidablePred P] (t : ι) (ht : P t) (S : ι → EReal) (r : ι → ℝ) (hr : ∀ u, S u = (r u : EReal))
    (V : ι → EReal) :
    ∑ u, V u * Ideal.div (Ideal.exp ((if P u then S u else ⊥) - Finset.fold max (⊥ : EReal) (fun u => if P u then S u else ⊥) Finset.univ))
        (∑ u', Ideal.exp ((if P u' then S u' else ⊥) - Finset.fold max (⊥ : EReal) (fun u => if P u then S u else ⊥) Finset.univ))
      = Ideal.div (∑ u, (if P u then Ideal.exp (S u) else 0) * V u) (∑ u, if P u then Ideal.exp (S u) else 0) := by
  classical
  have hS : S = fun u => ((r u : ℝ) : EReal) := funext hr
  subst hS
  obtain ⟨M, hM⟩ : ∃ M : ℝ, Finset.fold max (⊥ : EReal) (fun u => if P u then ((r u : ℝ) : EReal) else ⊥) Finset.univ = (M : EReal) := by
    rcases max_real Finset.univ P r with ⟨_, h⟩ | h
    · exact absurd ht (h t (Finset.mem_univ _))
    · exact h
  rw [hM]
  set w : ι → ℝ := fun u => if P u then Real.exp (r u) else 0 with hw
  have w0 : ∀ u, 0 ≤ w u := fun u => by rw [hw]; dsimp only; split_ifs; exacts [(Real.exp_pos _).le, le_refl _]
  have e1 : ∀ u, Ideal.exp ((if P u then ((r u : ℝ) : EReal) else ⊥) - (M : EReal)) = ((w u * Real.exp (-M) : ℝ) : EReal) := fun u => by
    rw [hw]; dsimp only
    split_ifs
    · rw [← EReal.coe_sub, ← Real.exp_add, ← sub_eq_add_neg]; rfl
    · rw [EReal.bot_sub, zero_mul]; rfl
  have e2 : ∀ u, (if P u then Ideal.exp ((r u : ℝ) : EReal) else 0) = ((w u : ℝ) : EReal) := fun u => by
    rw [hw]; dsimp only
    split_ifs <;> rfl
  simp only [e1, e2]
  rw [coe_sum, coe_sum, ← Finset.sum_mul]
  have hW : 0 < ∑ u, w u := Finset.sum_pos' (fun u _ => w0 u) ⟨t, Finset.mem_univ _, by rw [hw]; dsimp only; rw [if_pos ht]; exact Real.exp_pos _⟩
  rw [div_real _ _ hW.ne', mul_comm (∑ u, _ * V u), real_mul_sum _ _ (inv_nonneg.mpr hW.le)]
  refine Finset.sum_congr rfl fun u _ => ?_
  rw [div_real _ _ (mul_pos hW (Real.exp_pos _)).ne', ← EReal.coe_mul, ← mul_assoc, ← EReal.coe_mul, mul_comm (V u)]
  congr 2
  have := (Real.exp_pos (-M)).ne'
  field_simp

end Cert.Halo.Math
-- ==== Proof.Eval.lean ====
module

public import proofs.«01_k».proof.Proof.Value
public import proofs.«01_k».proof.Proof.Math
public import Idealize.ShloMosaic.Lib.WordCmp

@[expose] public section

noncomputable section

namespace Cert.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## What the whole computation gives -/

/-- The head a column lies in, -/
abbrev hd (col : Fin 1024) : Fin 8 := ⟨col.val / 128, by omega⟩
/-- and its place there; -/
abbrev ln (col : Fin 1024) : Fin 128 := ⟨col.val % 128, by omega⟩
/-- the column of a place in a head. -/
abbrev colOf (h : Fin 8) (e : Fin 128) : Fin 1024 := ⟨128 * h.val + e.val, by omega⟩

/-- Keys within 128 positions of a query. -/
abbrev near (t u : Fin 8192) : Prop := t.val ≤ u.val + 128 ∧ u.val ≤ t.val + 128

section Spec
variable (X : Fin 8192 → Fin 1024 → EReal) (Wq : Fin 1024 → Fin 1024 → EReal) (K V : Fin 8192 → Fin 8 → Fin 128 → EReal) (Wo : Fin 1024 → Fin 1024 → EReal)

/-- A query vector's entry. -/
def qS (t : Fin 8192) (col : Fin 1024) : EReal := ∑ a : Fin 1024, X t a * Wq a col
/-- A scaled score. -/
def scoreS (t : Fin 8192) (h : Fin 8) (u : Fin 8192) : EReal := (∑ e : Fin 128, qS X Wq t (colOf h e) * K u h e) * Ideal.ofBits .f32 0x3DB504F3#32
/-- A head's context: exponentials of the scores of the near keys, weighting the values, over their sum. -/
def ctxS (t : Fin 8192) (h : Fin 8) (d : Fin 128) : EReal :=
  Ideal.div (∑ u : Fin 8192, (if near t u then Ideal.exp (scoreS X Wq K t h u) else 0) * V u h d) (∑ u : Fin 8192, if near t u then Ideal.exp (scoreS X Wq K t h u) else 0)
/-- The result: every head's context through the output weights. -/
def outS (t : Fin 8192) (n : Fin 1024) : EReal := ∑ col : Fin 1024, ctxS X Wq K V t (hd col) (ln col) * Wo col n

end Spec

/-! ## The kernel's operations at an index -/

/-- A weight: the exponential of a scaled score where the mask holds. -/
def wt (M : IVec S256x512 1) (q : FVec Ideal S256x128 .bf16) (k : FVec Ideal S512x128 .bf16) (i : Fin 256) (j : Fin 512) : EReal :=
  if M (ix2 i j) = 1#1 then Ideal.exp ((∑ e : Fin 128, q (ix2 i e) * k (ix2 j e)) * Ideal.ofBits .f32 0x3DB504F3#32) else 0

/-- The kernel’s masked weights, entry by entry; -/
theorem weightsOf_apply (M : IVec S256x512 1) (q : FVec Ideal S256x128 .bf16) (k : FVec Ideal S512x128 .bf16) (i : Fin 256) (j : Fin 512) :
    weightsOf M q k (ix2 i j) = wt M q k i j := by
  pointwise [weightsOf]
  rfl

/-- the weighted values over their sum; -/
theorem weighted_apply (w : FVec Ideal S256x512 .f32) (v : FVec Ideal S512x128 .bf16) (i : Fin 256) (d : Fin 128) :
    divf (matmul dot_S256x512_S512x128_S256x128_1_0_0_1_n_n none (truncf .bf16 w bitsLt_bf16_f32) v (constant S256x128 .f32 0x00000000#32))
      (broadcastTo S256x128 (shapeCast S256x1 (multiReduction .add [1] S256 w 0x00000000#32 reduces_S256x512_S256 (.inl rfl) rfl)
        shapeCasts_S256_S256x1) broadcasts_S256x1_S256x128) (ix2 i d) = Ideal.div (∑ j : Fin 512, w (ix2 i j) * v (ix2 j d)) (∑ j : Fin 512, w (ix2 i j)) := by
  pointwise

/-- one head; -/
theorem headOf_apply (M : IVec S256x512 1) (q : FVec Ideal S256x128 .bf16) (k v : FVec Ideal S512x128 .bf16) (i : Fin 256) (d : Fin 128) :
    headOf M q k v (ix2 i d) = Ideal.div (∑ j : Fin 512, wt M q k i j * v (ix2 j d)) (∑ j : Fin 512, wt M q k i j) := by
  unfold headOf
  rw [weighted_apply]
  simp only [weightsOf_apply]

theorem slice_at {a b n : ℕ} (o h : ℕ) (q : (⟨2, ![a, b]⟩ : Shape).Idx → EReal) (hs : (⟨2, ![a, b]⟩ : Shape).Slices ![o, h] ⟨2, ![n, 128]⟩) (i : Fin n) (e : Fin 128)
    (i' : Fin a) (e' : Fin b) (hi : i'.val = o + i.val) (he : e'.val = h + e.val) :
    extractStridedSlice (⟨2, ![n, 128]⟩ : Shape) ![o, h] q hs (ix2 i e) = q (ix2 i' e') :=
  extractStridedSlice_apply _ q hs _ _ fun x => match x with | ⟨0, _⟩ => hi | ⟨1, _⟩ => he

/-- one head of a block; -/
theorem headAt_apply (o h : ℕ) (ho : o + 256 ≤ 1024) (hh : h + 128 ≤ 1024) (M : IVec S256x512 1) (q : FVec Ideal S1024x1024 .bf16) (k v : FVec Ideal S512x1024 .bf16)
    (i : Fin 256) (d : Fin 128) (w : Fin 512 → EReal)
    (hw : ∀ j, w j = if M (ix2 i j) = 1#1 then Ideal.exp ((∑ e : Fin 128, q (ix2 ⟨o + i.val, by omega⟩ ⟨h + e.val, by omega⟩) * k (ix2 j ⟨h + e.val, by omega⟩))
      * Ideal.ofBits .f32 0x3DB504F3#32) else 0) :
    headAt o h ho hh M q k v (ix2 i d) = Ideal.div (∑ j : Fin 512, w j * v (ix2 j ⟨h + d.val, by omega⟩)) (∑ j : Fin 512, w j) := by
  unfold headAt
  rw [headOf_apply]
  have e1 : ∀ j, wt M (extractStridedSlice S256x128 ![o, h] q (slices_q o h ho hh)) (extractStridedSlice S512x128 ![0, h] k (slices_kv h hh)) i j = w j := fun j => by
    rw [hw]
    unfold wt
    refine if_congr Iff.rfl (congrArg Ideal.exp (congrArg (· * _) (Finset.sum_congr rfl fun e _ => ?_))) rfl
    exact congrArg₂ (· * ·) (slice_at o h q _ i e _ _ rfl rfl) (slice_at 0 h k _ j e _ _ (Nat.zero_add _).symm rfl)
  simp only [e1]
  exact congrArg (fun x => Ideal.div x _) (Finset.sum_congr rfl fun j _ => congrArg (w j * ·) (slice_at 0 h v _ j d _ _ (Nat.zero_add _).symm rfl))

theorem headAt_congr (o h h' : ℕ) (e : h = h') (ho : o + 256 ≤ 1024) (hh : h + 128 ≤ 1024) (hh' : h' + 128 ≤ 1024) (M : IVec S256x512 1) (q : FVec Ideal S1024x1024 .bf16)
    (k v : FVec Ideal S512x1024 .bf16) (i : Fin 256) (d d' : Fin 128) (ed : d.val = d'.val) : headAt o h ho hh M q k v (ix2 i d) = headAt o h' ho hh' M q k v (ix2 i d') := by
  subst e
  rw [Fin.ext ed]

/-- the queries; -/
theorem qOf_apply (x w : FVec Ideal S1024x1024 .f32) (r j : Fin 1024) : (k0_pay10 (F := Ideal) x w (ix2 r j) : EReal) = ∑ a : Fin 1024, x (ix2 r a) * w (ix2 a j) := by
  pointwise [k0_pay10]

/-- the heads side by side; -/
theorem ctxOf_apply (o : ℕ) (ho : o + 256 ≤ 1024) (M : IVec S256x512 1) (q : FVec Ideal S1024x1024 .bf16) (k v : FVec Ideal S512x1024 .bf16)
    (i : Fin 256) (col : Fin 1024) : ctxOf o ho M q k v (ix2 i col) = headAt o (128 * (hd col).val) ho (by have := (hd col).isLt; omega) M q k v (ix2 i (ln col)) := by
  pointwise [ctxOf]
  have hc := col.isLt
  split_ifs <;> exact headAt_congr _ _ _ (by omega) _ _ _ _ _ _ _ _ _ _ (by simp only; omega)

theorem pay13_apply (x : Vec Ideal S512x8x128 .f32) (j : Fin 512) (c : Fin 1024) : (k0_pay13 (F := Ideal) x (ix2 j c) : EReal) = x (ix3 j (hd c) (ln c)) := by
  pointwise [k0_pay13]
theorem pay14_apply (x : Vec Ideal S512x8x128 .f32) (j : Fin 512) (c : Fin 1024) : (k0_pay14 (F := Ideal) x (ix2 j c) : EReal) = x (ix3 j (hd c) (ln c)) := by
  pointwise [k0_pay14]
theorem pay27_apply (x : Vec Ideal S512x8x128 .f32) (j : Fin 512) (c : Fin 1024) : (k0_pay27 (F := Ideal) x (ix2 j c) : EReal) = x (ix3 j (hd c) (ln c)) := by
  pointwise [k0_pay27]
theorem pay28_apply (x : Vec Ideal S512x8x128 .f32) (j : Fin 512) (c : Fin 1024) : (k0_pay28 (F := Ideal) x (ix2 j c) : EReal) = x (ix3 j (hd c) (ln c)) := by
  pointwise [k0_pay28]
theorem pay39_apply (x : Vec Ideal S384x8x128 .f32) (y : Vec Ideal S128x1024 .bf16) (j : Fin 512) (c : Fin 1024) : (k0_pay39 (F := Ideal) x y (ix2 j c) : EReal)
    = if h : j.val < 128 then y (ix2 ⟨j.val, h⟩ c) else x (ix3 ⟨j.val - 128, by omega⟩ (hd c) (ln c)) := by
  pointwise [k0_pay39]
theorem pay40_apply (x : Vec Ideal S384x8x128 .f32) (y : Vec Ideal S128x1024 .bf16) (j : Fin 512) (c : Fin 1024) : (k0_pay40 (F := Ideal) x y (ix2 j c) : EReal)
    = if h : j.val < 128 then y (ix2 ⟨j.val, h⟩ c) else x (ix3 ⟨j.val - 128, by omega⟩ (hd c) (ln c)) := by
  pointwise [k0_pay40]
theorem pay53_apply (x : Vec Ideal S384x8x128 .f32) (y : Vec Ideal S128x1024 .bf16) (j : Fin 512) (c : Fin 1024) : (k0_pay53 (F := Ideal) (k0_pay52 x) y (ix2 j c) : EReal)
    = if h : j.val < 384 then x (ix3 ⟨j.val, h⟩ (hd c) (ln c)) else y (ix2 ⟨j.val - 384, by omega⟩ c) := by
  pointwise [k0_pay53, k0_pay52]
theorem pay54_apply (x : Vec Ideal S384x8x128 .f32) (y : Vec Ideal S128x1024 .bf16) (j : Fin 512) (c : Fin 1024) : (k0_pay54 (F := Ideal) x y (ix2 j c) : EReal)
    = if h : j.val < 384 then x (ix3 ⟨j.val, h⟩ (hd c) (ln c)) else y (ix2 ⟨j.val - 384, by omega⟩ c) := by
  pointwise [k0_pay54]
theorem pay1_apply (x : Vec Ideal S128x8x128 .f32) (j : Fin 128) (c : Fin 1024) : (k0_pay1 (F := Ideal) x (ix2 j c) : EReal) = x (ix3 j (hd c) (ln c)) := by
  pointwise [k0_pay1]
theorem pay4_apply (x : Vec Ideal S128x8x128 .f32) (j : Fin 128) (c : Fin 1024) : (k0_pay4 (F := Ideal) x (ix2 j c) : EReal) = x (ix3 j (hd c) (ln c)) := by
  pointwise [k0_pay4]
theorem pay3_apply (x : Vec Ideal S128x8x128 .f32) (j : Fin 128) (c : Fin 1024) : (k0_pay3 (F := Ideal) (k0_pay2 x) (ix2 j c) : EReal) = x (ix3 j (hd c) (ln c)) := by
  pointwise [k0_pay3, k0_pay2]
theorem pay5_apply (x : Vec Ideal S128x8x128 .f32) (j : Fin 128) (c : Fin 1024) : (k0_pay5 (F := Ideal) x (ix2 j c) : EReal) = x (ix3 j (hd c) (ln c)) := by
  pointwise [k0_pay5]

/-- a block, projected. -/
theorem blockOf_apply (o : ℕ) (ho : o + 256 ≤ 1024) (M : IVec S256x512 1) (q : FVec Ideal S1024x1024 .bf16) (k v : FVec Ideal S512x1024 .bf16) (wo : FVec Ideal S1024x1024 .f32)
    (i : Fin 256) (n : Fin 1024) : blockOf o ho M q k v wo (ix2 i n) = ∑ col : Fin 1024, ctxOf o ho M q k v (ix2 i col) * wo (ix2 col n) := by
  pointwise [blockOf]

/-! ## The mask -/

theorem andi_one (x y : BitVec 1) : IntOp.andi x y = 1#1 ↔ x = 1#1 ∧ y = 1#1 := by revert x y; decide
theorem bit_one (b : Bool) : BitVec.ofBool b = 1#1 ↔ b = true := by revert b; decide
theorem addi_toInt (W : BitVec 32) (w : ℤ) (hW : W.toInt = w) (h1 : -128 ≤ w) (h2 : w ≤ 8000) (j : ℕ) (hj : j < 512) :
    (IntOp.addi W (BitVec.ofNat 32 j)).toInt = w + j := by
  show (W + BitVec.ofNat 32 j).toInt = _
  rw [BitVec.toInt_add, hW, WordCmp.toInt_ofNat_of_lt (by norm_num; omega)]
  have e : ((2 ^ 32 : ℕ) : ℤ) = 4294967296 := by norm_num
  rw [Int.bmod_def, e]
  split <;> omega

/-- The mask’s comparisons, as the distance test on integers. -/
theorem band_iff (W : BitVec 32) (w : ℤ) (hW : W.toInt = w) (h1 : -128 ≤ w) (h2 : w ≤ 8000) (i : Fin 256) (j : Fin 512) :
    IntOp.andi (IntOp.andi (IntOp.andi (IntOp.cmpi .sge (BitVec.ofNat 32 j.val) (BitVec.ofNat 32 i.val))
        (IntOp.cmpi .sle (BitVec.ofNat 32 j.val) (IntOp.addi (BitVec.ofNat 32 i.val) 256#32)))
        (IntOp.cmpi .sge (IntOp.addi W (BitVec.ofNat 32 j.val)) 0#32)) (IntOp.cmpi .slt (IntOp.addi W (BitVec.ofNat 32 j.val)) 8192#32) = 1#1
      ↔ (i.val ≤ j.val ∧ j.val ≤ i.val + 256) ∧ 0 ≤ w + j.val ∧ w + j.val < 8192 := by
  have hi := i.isLt
  have hj := j.isLt
  have e1 : (BitVec.ofNat 32 j.val).toInt = j.val := WordCmp.toInt_ofNat_of_lt (by norm_num; omega)
  have e2 : (BitVec.ofNat 32 i.val).toInt = i.val := WordCmp.toInt_ofNat_of_lt (by norm_num; omega)
  have e3 : (IntOp.addi (BitVec.ofNat 32 i.val) 256#32).toInt = i.val + 256 := addi_toInt _ _ e2 (by omega) (by omega) 256 (by omega)
  have e4 := addi_toInt W w hW h1 h2 j.val hj
  simp only [andi_one, IntOp.cmpi, bit_one, BitVec.sle_iff_toInt_le, BitVec.slt_iff_toInt_lt, e1, e2, e3, e4]
  have z : (0#32).toInt = 0 := rfl
  have z' : (8192#32).toInt = 8192 := rfl
  rw [z, z']
  omega

/-! ## One block -/

/-- Row `r` of device `c` among the 8192 rows. -/
abbrev rowOf (c : Dev nD) (r : ℕ) (hr : r < 1024) : Fin 8192 := ⟨1024 * c.val + r, by have : c.val < 8 := c.isLt; omega⟩

section Spec
variable (X : Fin 8192 → Fin 1024 → EReal) (Wq : Fin 1024 → Fin 1024 → EReal) (K V : Fin 8192 → Fin 8 → Fin 128 → EReal) (Wo : Fin 1024 → Fin 1024 → EReal)

theorem hd_colOf (h : Fin 8) (e : Fin 128) : hd (colOf h e) = h := Fin.ext (by simp only; omega)
theorem ln_colOf (h : Fin 8) (e : Fin 128) : ln (colOf h e) = e := Fin.ext (by simp only; omega)

/-- A block whose mask is the band, whose queries are the projections and whose window holds the keys and values around its rows gives its rows of the result. -/
theorem block_spec (c : Dev nD) (o : ℕ) (ho : o + 256 ≤ 1024) (M : IVec S256x512 1) (q : FVec Ideal S1024x1024 .bf16) (k v : FVec Ideal S512x1024 .bf16)
    (wo : FVec Ideal S1024x1024 .f32)
    (hM : ∀ (i : Fin 256) (j : Fin 512), M (ix2 i j) = 1#1 ↔ (i.val ≤ j.val ∧ j.val ≤ i.val + 256) ∧ 128 ≤ 1024 * c.val + o + j.val ∧ 1024 * c.val + o + j.val < 8320)
    (hq : ∀ r col, q (ix2 r col) = qS X Wq (rowOf c r.val r.isLt) col)
    (hk : ∀ (j : Fin 512) col (u : Fin 8192), u.val + 128 = 1024 * c.val + o + j.val → k (ix2 j col) = K u (hd col) (ln col))
    (hv : ∀ (j : Fin 512) col (u : Fin 8192), u.val + 128 = 1024 * c.val + o + j.val → v (ix2 j col) = V u (hd col) (ln col))
    (hwo : ∀ a n, wo (ix2 a n) = Wo a n) (i : Fin 256) (n : Fin 1024) :
    blockOf o ho M q k v wo (ix2 i n) = outS X Wq K V Wo (rowOf c (o + i.val) (by omega)) n := by
  have hc : c.val < 8 := c.isLt
  rw [blockOf_apply]
  unfold outS
  refine Finset.sum_congr rfl fun col _ => ?_
  rw [hwo, ctxOf_apply, headAt_apply _ _ _ _ _ _ _ _ _ _ _ fun j => rfl]
  refine congrArg (· * _) ?_
  unfold ctxS
  set t := rowOf c (o + i.val) (by omega) with ht
  set h := hd col with hh
  have hcol : ∀ e : Fin 128, (⟨128 * h.val + e.val, by omega⟩ : Fin 1024) = colOf h e := fun e => rfl
  -- a weight in the window is the weight of its key
  have key : ∀ (j : Fin 512) (u : Fin 8192), u.val + 128 = 1024 * c.val + o + j.val →
      (if M (ix2 i j) = 1#1 then Ideal.exp ((∑ e : Fin 128, q (ix2 ⟨o + i.val, by omega⟩ ⟨128 * h.val + e.val, by omega⟩) * k (ix2 j ⟨128 * h.val + e.val, by omega⟩))
        * Ideal.ofBits .f32 0x3DB504F3#32) else 0) = if near t u then Ideal.exp (scoreS X Wq K t h u) else 0 := fun j u hu => by
    have hj := j.isLt
    have hi := i.isLt
    have hul := u.isLt
    refine if_congr ((hM i j).trans ?_) (congrArg Ideal.exp ?_) rfl
    · show _ ↔ 1024 * c.val + (o + i.val) ≤ u.val + 128 ∧ u.val ≤ 1024 * c.val + (o + i.val) + 128
      omega
    · unfold scoreS
      refine congrArg (· * _) (Finset.sum_congr rfl fun e _ => ?_)
      rw [hcol, hq, hk j _ u hu, hd_colOf, ln_colOf]
  have far : ∀ j : Fin 512, (∀ u : Fin 8192, u.val + 128 ≠ 1024 * c.val + o + j.val) → ¬ M (ix2 i j) = 1#1 := fun j hu hM' => by
    obtain ⟨_, h1, h2⟩ := (hM i j).mp hM'
    exact hu ⟨1024 * c.val + o + j.val - 128, by omega⟩ (by simp only; omega)
  have hlo : 1024 * c.val + o + 512 ≤ 8448 := by omega
  have away : ∀ u : Fin 8192, ¬(1024 * c.val + o ≤ u.val + 128 ∧ u.val + 128 < 1024 * c.val + o + 512) → ¬ near t u := fun u hu hn => by
    have hi := i.isLt
    have h1 : 1024 * c.val + (o + i.val) ≤ u.val + 128 := hn.1
    have h2 : u.val ≤ 1024 * c.val + (o + i.val) + 128 := hn.2
    omega
  refine congrArg₂ Ideal.div ?_ ?_
  · refine Math.window_sum (1024 * c.val + o) hlo _ _ (fun u hu => ?_) (fun j u hu => ?_) fun j hu => ?_
    · rw [if_neg (away u hu), zero_mul]
    · rw [key j u hu, hcol, hv j _ u hu, hd_colOf, ln_colOf]
    · rw [if_neg (far j hu), zero_mul]
  · refine Math.window_sum (1024 * c.val + o) hlo _ _ (fun u hu => ?_) (fun j u hu => ?_) fun j hu => ?_
    · rw [if_neg (away u hu)]
    · exact key j u hu
    · rw [if_neg (far j hu)]

end Spec

end Cert.Halo
-- ==== Proof.Kern.lean ====
module

public import proofs.«01_k».proof.Proof.Eval

@[expose] public section

noncomputable section

namespace Cert.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! # The kernel's result over the reals

Every block of every device holds its rows of the whole result. The masks are read as bands, and the windows as the rows of K and V around a block, with the
neighbour's rows where the window reaches past the device's own. -/

/-- The device's position, as a number. -/
theorem base0 (c : Dev nD) : (Scalar.addi (Scalar.subi (Scalar.muli (posW c) 1024#32) 128#32) 0#32 : BitVec 32).toInt = 1024 * (c.val : ℤ) + 0 - 128 := by revert c; decide
theorem base1 (c : Dev nD) : (Scalar.addi (Scalar.subi (Scalar.muli (posW c) 1024#32) 128#32) 256#32 : BitVec 32).toInt = 1024 * (c.val : ℤ) + 256 - 128 := by revert c; decide
theorem base2 (c : Dev nD) : (Scalar.addi (Scalar.subi (Scalar.muli (posW c) 1024#32) 128#32) 512#32 : BitVec 32).toInt = 1024 * (c.val : ℤ) + 512 - 128 := by revert c; decide
theorem base3 (c : Dev nD) : (Scalar.addi (Scalar.subi (Scalar.muli (posW c) 1024#32) 128#32) 768#32 : BitVec 32).toInt = 1024 * (c.val : ℤ) + 768 - 128 := by revert c; decide

/-- The band of a block at offset `o`. -/
theorem band_at (c : Dev nD) (o : ℕ) (ho : o ≤ 768) (W : BitVec 32) (hW : W.toInt = 1024 * (c.val : ℤ) + o - 128) (i : Fin 256) (j : Fin 512) :
    IntOp.andi (IntOp.andi (IntOp.andi (IntOp.cmpi .sge (BitVec.ofNat 32 j.val) (BitVec.ofNat 32 i.val))
        (IntOp.cmpi .sle (BitVec.ofNat 32 j.val) (IntOp.addi (BitVec.ofNat 32 i.val) 256#32)))
        (IntOp.cmpi .sge (IntOp.addi W (BitVec.ofNat 32 j.val)) 0#32)) (IntOp.cmpi .slt (IntOp.addi W (BitVec.ofNat 32 j.val)) 8192#32) = 1#1
      ↔ (i.val ≤ j.val ∧ j.val ≤ i.val + 256) ∧ 128 ≤ 1024 * c.val + o + j.val ∧ 1024 * c.val + o + j.val < 8320 := by
  have hc : c.val < 8 := c.isLt
  rw [band_iff W _ hW (by omega) (by omega)]
  omega

theorem mask0_iff (c : Dev nD) (i : Fin 256) (j : Fin 512) :
    mask0 c (ix2 i j) = 1#1 ↔ (i.val ≤ j.val ∧ j.val ≤ i.val + 256) ∧ 128 ≤ 1024 * c.val + 0 + j.val ∧ 1024 * c.val + 0 + j.val < 8320 := by
  refine Iff.trans (Eq.congr_left ?_) (band_at c 0 (by decide) _ (base0 c) i j)
  pointwise [mask0, k0_pay38, k0_pay11, colW]

theorem mask1_iff (c : Dev nD) (i : Fin 256) (j : Fin 512) :
    mask1 c (ix2 i j) = 1#1 ↔ (i.val ≤ j.val ∧ j.val ≤ i.val + 256) ∧ 128 ≤ 1024 * c.val + 256 + j.val ∧ 1024 * c.val + 256 + j.val < 8320 := by
  refine Iff.trans (Eq.congr_left ?_) (band_at c 256 (by decide) _ (base1 c) i j)
  pointwise [mask1, k0_pay12, k0_pay11, colW]

theorem mask2_iff (c : Dev nD) (i : Fin 256) (j : Fin 512) :
    mask2 c (ix2 i j) = 1#1 ↔ (i.val ≤ j.val ∧ j.val ≤ i.val + 256) ∧ 128 ≤ 1024 * c.val + 512 + j.val ∧ 1024 * c.val + 512 + j.val < 8320 := by
  refine Iff.trans (Eq.congr_left ?_) (band_at c 512 (by decide) _ (base2 c) i j)
  pointwise [mask2, k0_pay26, k0_pay24, k0_pay25, k0_pay11, colW]

theorem mask3_iff (c : Dev nD) (i : Fin 256) (j : Fin 512) :
    mask3 c (ix2 i j) = 1#1 ↔ (i.val ≤ j.val ∧ j.val ≤ i.val + 256) ∧ 128 ≤ 1024 * c.val + 768 + j.val ∧ 1024 * c.val + 768 + j.val < 8320 := by
  refine Iff.trans (Eq.congr_left ?_) (band_at c 768 (by decide) _ (base3 c) i j)
  pointwise [mask3, k0_pay51, k0_pay11, colW]

/-! ## Windows -/

/-- Row `j` of a run of rows. -/
theorem rowsAt_apply (n o : ℕ) (inb) (ho : o + n ≤ 1024) (f : FVec Ideal S1024x8x128 .f32) (j : Fin n) (h : Fin 8) (e : Fin 128) :
    rowsAt n o inb f (ix3 j h e) = f (ix3 ⟨o + j.val, by omega⟩ h e) := by
  refine congrArg f (funext fun a => Fin.ext ?_)
  match a with
  | ⟨0, _⟩ => show o + 1 * j.val = o + j.val; omega
  | ⟨1, _⟩ => show 0 + 1 * h.val = h.val; omega
  | ⟨2, _⟩ => show 0 + 1 * e.val = e.val; omega

section Arrays
variable (m : (ℓ : Loc nD τ sig) → Buf (Elt Ideal) ℓ)

theorem kHead_apply (c : Dev nD) (j : Fin 128) (h : Fin 8) (e : Fin 128) : (kHead m c (ix3 j h e) : EReal) = kMat m c (ix3 ⟨0 + j.val, by omega⟩ h e) :=
  read_rows4 (Memref.whole main_arg2) 128 0 _ _ _ (m ((c : Thread nD τ).loc main_arg2)) (ix3 j h e) (ix4 0 ⟨0 + j.val, by omega⟩ h e)
    (funext fun a => match a with | ⟨0, _⟩ => rfl | ⟨1, _⟩ => rfl | ⟨2, _⟩ => rfl | ⟨3, _⟩ => rfl) rfl

theorem kTail_apply (c : Dev nD) (j : Fin 128) (h : Fin 8) (e : Fin 128) : (kTail m c (ix3 j h e) : EReal) = kMat m c (ix3 ⟨896 + j.val, by omega⟩ h e) :=
  read_rows4 (Memref.whole main_arg2) 128 896 _ _ _ (m ((c : Thread nD τ).loc main_arg2)) (ix3 j h e) (ix4 0 ⟨896 + j.val, by omega⟩ h e)
    (funext fun a => match a with | ⟨0, _⟩ => rfl | ⟨1, _⟩ => rfl | ⟨2, _⟩ => rfl | ⟨3, _⟩ => rfl) rfl

theorem vHead_apply (c : Dev nD) (j : Fin 128) (h : Fin 8) (e : Fin 128) : (vHead m c (ix3 j h e) : EReal) = vMat m c (ix3 ⟨0 + j.val, by omega⟩ h e) :=
  read_rows4 (Memref.whole main_arg3) 128 0 _ _ _ (m ((c : Thread nD τ).loc main_arg3)) (ix3 j h e) (ix4 0 ⟨0 + j.val, by omega⟩ h e)
    (funext fun a => match a with | ⟨0, _⟩ => rfl | ⟨1, _⟩ => rfl | ⟨2, _⟩ => rfl | ⟨3, _⟩ => rfl) rfl

theorem vTail_apply (c : Dev nD) (j : Fin 128) (h : Fin 8) (e : Fin 128) : (vTail m c (ix3 j h e) : EReal) = vMat m c (ix3 ⟨896 + j.val, by omega⟩ h e) :=
  read_rows4 (Memref.whole main_arg3) 128 896 _ _ _ (m ((c : Thread nD τ).loc main_arg3)) (ix3 j h e) (ix4 0 ⟨896 + j.val, by omega⟩ h e)
    (funext fun a => match a with | ⟨0, _⟩ => rfl | ⟨1, _⟩ => rfl | ⟨2, _⟩ => rfl | ⟨3, _⟩ => rfl) rfl

/-- The devices' rows `f` together are the rows of `G`. -/
def Rows (f : Dev nD → FVec Ideal S1024x8x128 .f32) (G : Fin 8192 → Fin 8 → Fin 128 → EReal) : Prop :=
  ∀ (c : Dev nD) (r : Fin 1024) (h : Fin 8) (e : Fin 128), f c (ix3 r h e) = G (rowOf c r.val r.isLt) h e

variable {G : Fin 8192 → Fin 8 → Fin 128 → EReal}

theorem rows_at {f : Dev nD → FVec Ideal S1024x8x128 .f32} (hf : Rows f G) (d : Dev nD) (r : ℕ) (hr : r < 1024) (u : Fin 8192) (hu : u.val = 1024 * d.val + r)
    (h : Fin 8) (e : Fin 128) : f d (ix3 ⟨r, hr⟩ h e) = G u h e :=
  (hf d ⟨r, hr⟩ h e).trans (congrArg (fun u => G u h e) (Fin.ext hu.symm))

theorem prv_val (c : Dev nD) (h : hasL c) : (prv c).val + 1 = c.val := by
  have hc : c.val < 8 := c.isLt
  have h' : 0 < c.val := h
  show (c.val + 7) % 8 + 1 = c.val
  omega
theorem nxt_val (c : Dev nD) (h : hasR c) : (nxt c).val = c.val + 1 := by
  have h' : c.val < 7 := h
  show (c.val + 1) % 8 = c.val + 1
  omega

/-- A window inside the device's own rows holds the keys around its block. -/
theorem inner_row {f : Dev nD → FVec Ideal S1024x8x128 .f32} (hf : Rows f G) (c : Dev nD) (o off : ℕ) (ho : o = off + 128) (inb) (hoff : off + 512 ≤ 1024)
    (w : FVec Ideal S512x1024 .bf16) (hw : ∀ j col, w (ix2 j col) = rowsAt 512 off inb (f c) (ix3 j (hd col) (ln col)))
    (j : Fin 512) (col : Fin 1024) (u : Fin 8192) (hu : u.val + 128 = 1024 * c.val + o + j.val) : (w (ix2 j col) : EReal) = G u (hd col) (ln col) := by
  rw [hw, rowsAt_apply 512 off _ hoff]
  exact rows_at hf c _ _ u (by omega) _ _

/-- The first block's window: the left neighbour's last rows, then the device's own. -/
theorem top_row {f : Dev nD → FVec Ideal S1024x8x128 .f32} (hf : Rows f G) (c : Dev nD) (inb) (t : FVec Ideal S128x1024 .bf16)
    (ht : hasL c → ∀ j col, t (ix2 j col) = f (prv c) (ix3 ⟨896 + j.val, by omega⟩ (hd col) (ln col))) (w : FVec Ideal S512x1024 .bf16)
    (hw : ∀ j col, w (ix2 j col) = if h : j.val < 128 then t (ix2 ⟨j.val, h⟩ col) else rowsAt 384 0 inb (f c) (ix3 ⟨j.val - 128, by omega⟩ (hd col) (ln col)))
    (j : Fin 512) (col : Fin 1024) (u : Fin 8192) (hu : u.val + 128 = 1024 * c.val + 0 + j.val) : (w (ix2 j col) : EReal) = G u (hd col) (ln col) := by
  rw [hw]
  by_cases hj : j.val < 128
  · have hL : hasL c := show 0 < c.val by omega
    have hp := prv_val c hL
    rw [dif_pos hj, ht hL]
    exact rows_at hf _ _ _ u (by simp only; omega) _ _
  · rw [dif_neg hj, rowsAt_apply 384 0 _ (by decide)]
    exact rows_at hf c _ _ u (by simp only; omega) _ _

/-- The last block's window: the device's own rows, then the right neighbour's first. -/
theorem bottom_row {f : Dev nD → FVec Ideal S1024x8x128 .f32} (hf : Rows f G) (c : Dev nD) (inb) (t : FVec Ideal S128x1024 .bf16)
    (ht : hasR c → ∀ j col, t (ix2 j col) = f (nxt c) (ix3 ⟨0 + j.val, by omega⟩ (hd col) (ln col))) (w : FVec Ideal S512x1024 .bf16)
    (hw : ∀ j col, w (ix2 j col) = if h : j.val < 384 then rowsAt 384 640 inb (f c) (ix3 ⟨j.val, h⟩ (hd col) (ln col)) else t (ix2 ⟨j.val - 384, by omega⟩ col))
    (j : Fin 512) (col : Fin 1024) (u : Fin 8192) (hu : u.val + 128 = 1024 * c.val + 768 + j.val) : (w (ix2 j col) : EReal) = G u (hd col) (ln col) := by
  have hul := u.isLt
  rw [hw]
  by_cases hj : j.val < 384
  · rw [dif_pos hj, rowsAt_apply 384 640 _ (by decide)]
    exact rows_at hf c _ _ u (by simp only; omega) _ _
  · have hR : hasR c := show c.val < 7 by omega
    have hp := nxt_val c hR
    rw [dif_neg hj, ht hR]
    exact rows_at hf _ _ _ u (by simp only; omega) _ _

/-! What arrived from the neighbours. -/

/-- Received from the left: the neighbour's last rows of K. -/
theorem topK_row (c : Dev nD) (h : hasL c) (j : Fin 128) (col : Fin 1024) : (topK m c (ix2 j col) : EReal) = kMat m (prv c) (ix3 ⟨896 + j.val, by omega⟩ (hd col) (ln col)) := by
  rw [show topK m c = sent1 m (prv c) from if_pos h]
  exact (pay4_apply _ _ col).trans (kTail_apply m _ _ _ _)
/-- The same of V. -/
theorem topV_row (c : Dev nD) (h : hasL c) (j : Fin 128) (col : Fin 1024) : (topV m c (ix2 j col) : EReal) = vMat m (prv c) (ix3 ⟨896 + j.val, by omega⟩ (hd col) (ln col)) := by
  rw [show topV m c = sent3 m (prv c) from if_pos h]
  exact (pay5_apply _ _ col).trans (vTail_apply m _ _ _ _)
/-- Received from the right: the neighbour's first rows of K. -/
theorem botK_row (c : Dev nD) (h : hasR c) (j : Fin 128) (col : Fin 1024) : (botK m c (ix2 j col) : EReal) = kMat m (nxt c) (ix3 ⟨0 + j.val, by omega⟩ (hd col) (ln col)) := by
  rw [show botK m c = sent0 m (nxt c) from if_pos h]
  exact (pay1_apply _ _ col).trans (kHead_apply m _ _ _ _)
/-- The same of V. -/
theorem botV_row (c : Dev nD) (h : hasR c) (j : Fin 128) (col : Fin 1024) : (botV m c (ix2 j col) : EReal) = vMat m (nxt c) (ix3 ⟨0 + j.val, by omega⟩ (hd col) (ln col)) := by
  rw [show botV m c = sent2 m (nxt c) from if_pos h]
  exact (pay3_apply _ _ col).trans (vHead_apply m _ _ _ _)

/-! ## The result -/

variable {X : Fin 8192 → Fin 1024 → EReal} {Wq : Fin 1024 → Fin 1024 → EReal} {K V : Fin 8192 → Fin 8 → Fin 128 → EReal} {Wo : Fin 1024 → Fin 1024 → EReal}

/-- The projected queries of a device. -/
theorem qOf_row (hX : ∀ (c : Dev nD) (r a : Fin 1024), xMat m c (ix2 r a) = X (rowOf c r.val r.isLt) a)
    (hW : ∀ (c : Dev nD) (a b : Fin 1024), (m ((c : Thread nD τ).loc main_arg1) : FVec Ideal S1024x1024 .f32) (ix2 a b) = Wq a b) (c : Dev nD) (r col : Fin 1024) :
    (qOf m c (ix2 r col) : EReal) = qS X Wq (rowOf c r.val r.isLt) col := by
  refine (qOf_apply _ _ r col).trans ?_
  exact Finset.sum_congr rfl fun a _ => congrArg₂ (· * ·) (hX c r a) (hW c a col)

/-- Every row of a device's result is its row of the whole result. -/
theorem out_spec (hX : ∀ (c : Dev nD) (r a : Fin 1024), xMat m c (ix2 r a) = X (rowOf c r.val r.isLt) a)
    (hW : ∀ (c : Dev nD) (a b : Fin 1024), (m ((c : Thread nD τ).loc main_arg1) : FVec Ideal S1024x1024 .f32) (ix2 a b) = Wq a b)
    (hK : Rows (kMat m) K) (hV : Rows (vMat m) V)
    (hO : ∀ (c : Dev nD) (a b : Fin 1024), (m ((c : Thread nD τ).loc main_arg4) : FVec Ideal S1024x1024 .f32) (ix2 a b) = Wo a b)
    (c : Dev nD) (g : Buf (Elt Ideal) ((c : Thread nD τ).loc main_v1)) (hg : OutOK m c g) (r n : Fin 1024) :
    (g : FVec Ideal S1x1024x1024 .f32) (ix3 0 r n) = outS X Wq K V Wo (rowOf c r.val r.isLt) n := by
  obtain ⟨h0, h1, h2, h3⟩ := hg
  have hr := r.isLt
  have fin : ∀ (o : ℕ) (ho : o + 256 ≤ 1024) (w : FVec Ideal S256x1024 .f32) (i : Fin 256), r.val = o + i.val → RowsAre o ho w g →
      (w (ix2 i n) = outS X Wq K V Wo (rowOf c (o + i.val) (by omega)) n) →
      (g : FVec Ideal S1x1024x1024 .f32) (ix3 0 r n) = outS X Wq K V Wo (rowOf c r.val r.isLt) n := fun o ho w i hi hw e => by
    have e1 : r = ⟨o + i.val, by omega⟩ := Fin.ext hi
    rw [e1]
    exact (hw i n).trans e
  have hq := qOf_row m hX hW c
  by_cases c0 : r.val < 256
  · exact fin 0 _ _ ⟨r.val, c0⟩ (by simp only; omega) h0
      (block_spec X Wq K V Wo c 0 _ _ _ _ _ _ (mask0_iff c) hq
        (top_row hK c _ _ (topK_row m c) _ (pay39_apply _ _)) (top_row hV c _ _ (topV_row m c) _ (pay40_apply _ _)) (hO c) _ n)
  by_cases c1 : r.val < 512
  · exact fin 256 _ _ ⟨r.val - 256, by omega⟩ (by simp only; omega) h1
      (block_spec X Wq K V Wo c 256 _ _ _ _ _ _ (mask1_iff c) hq
        (inner_row hK c 256 128 rfl _ (by decide) _ (pay13_apply _)) (inner_row hV c 256 128 rfl _ (by decide) _ (pay14_apply _)) (hO c) _ n)
  by_cases c2 : r.val < 768
  · exact fin 512 _ _ ⟨r.val - 512, by omega⟩ (by simp only; omega) h2
      (block_spec X Wq K V Wo c 512 _ _ _ _ _ _ (mask2_iff c) hq
        (inner_row hK c 512 384 rfl _ (by decide) _ (pay27_apply _)) (inner_row hV c 512 384 rfl _ (by decide) _ (pay28_apply _)) (hO c) _ n)
  · exact fin 768 _ _ ⟨r.val - 768, by omega⟩ (by simp only; omega) h3
      (block_spec X Wq K V Wo c 768 _ _ _ _ _ _ (mask3_iff c) hq
        (bottom_row hK c _ _ (botK_row m c) _ (pay53_apply _ _)) (bottom_row hV c _ _ (botV_row m c) _ (pay54_apply _ _)) (hO c) _ n)

end Arrays

end Cert.Halo
-- ==== Proof.Ref.lean ====
module

public import proofs.«01_k».proof.Proof.Eval
public import proofs.«01_k».proof.Proof.Gen.ReferenceIdeal.Run

@[expose] public section

noncomputable section

namespace Cert.Whole

open Cert.ReferenceIdeal Cert.ReferenceIdeal.Gen

open Cert.Halo
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! # The reference over the reals

The reference's term is cut at its named stages, each a function of the stage before, and each stage is read at an index. -/

/-- Which keys a row sees. -/
def seen : IVec S8192x8192 1 := cmpi .sle (absi (subi (broadcastInDim S8192x8192 ![0, 1] bcast_S8192x1_S8192x8192_0_1 (broadcastInDim S8192x1 ![0] bcast_S8192_S8192x1_0 (iotaInDim S8192 32 0))) (broadcastInDim S8192x8192 ![0, 1] bcast_S1x8192_S8192x8192_0_1 (broadcastInDim S1x8192 ![1] bcast_S8192_S1x8192_1 (iotaInDim S8192 32 0))))) (broadcastInDim S8192x8192 ![] bcast_S_S8192x8192 (constantI S_ 32 128#32))
/-- Which rows see any key. -/
def anySeen (M : IVec S8192x8192 1) : IVec S8192 1 := Host.reduce IntOp.ori M (constantI S_ 1 0#1) reducesTo_S8192x8192_S8192_d1 h_S_
/-- The masked scores. -/
def scores (M : IVec S8192x8192 1) (x : FVec Ideal S1x8192x1024 .f32) (wq : FVec Ideal S1024x1024 .f32) (k : FVec Ideal S1x8192x8x128 .f32) : FVec Ideal S1x8x8192x8192 .f32 :=
  select (broadcastInDim S1x8x8192x8192 ![0, 1, 2, 3] bcast_S1x1x8192x8192_S1x8x8192x8192_0_1_2_3 (broadcastInDim S1x1x8192x8192 ![2, 3] bcast_S8192x8192_S1x1x8192x8192_2_3 M)) (mulf (Host.dotGeneral dot_S1x8192x8x128_S1x8192x8x128_S1x8x8192x8192_3_3_1_1_02_02 none (shapeCast S1x8192x8x128 (Host.dotGeneral dot_S1x8192x1024_S1024x1024_S1x8192x1024_2_0_01_1_n_n none x wq) shapeCasts_S1x8192x1024_S1x8192x8x128) k) (broadcastInDim S1x8x8192x8192 ![] bcast_S_S1x8x8192x8192 (constant S_ .f32 0x3DB504F3#32))) (broadcastInDim S1x8x8192x8192 ![] bcast_S_S1x8x8192x8192 (id (constant S_ .f32 0xFF800000#32)))
/-- Their exponentials, less each row's greatest. -/
def exps (s : FVec Ideal S1x8x8192x8192 .f32) : FVec Ideal S1x8x8192x8192 .f32 :=
  Host.exp (subf s (broadcastInDim S1x8x8192x8192 ![0, 1, 2, 3] bcast_S1x8x8192x1_S1x8x8192x8192_0_1_2_3 (broadcastInDim S1x8x8192x1 ![0, 1, 2] bcast_S1x8x8192_S1x8x8192x1_0_1_2 (Host.reduce FloatOps.maximumf s (constant S_ .f32 0xFF800000#32) reducesTo_S1x8x8192x8192_S1x8x8192_d3 h_S_))))
/-- The rows' sums. -/
def sums (e : FVec Ideal S1x8x8192x8192 .f32) : FVec Ideal S1x8x8192 .f32 :=
  Host.reduceAdd e (constant S_ .f32 0x00000000#32) reducesTo_S1x8x8192x8192_S1x8x8192_d3 h_S_
/-- The weights. -/
def weights (kp : IVec S8192 1) (e : FVec Ideal S1x8x8192x8192 .f32) (z : FVec Ideal S1x8x8192 .f32) : FVec Ideal S1x8x8192x8192 .f32 :=
  select (broadcastInDim S1x8x8192x8192 ![0, 1, 2, 3] bcast_S1x1x8192x1_S1x8x8192x8192_0_1_2_3 (broadcastInDim S1x1x8192x1 ![2] bcast_S8192_S1x1x8192x1_2 kp)) (Host.divf e (broadcastInDim S1x8x8192x8192 ![0, 1, 2, 3] bcast_S1x8x8192x1_S1x8x8192x8192_0_1_2_3 (select (broadcastInDim S1x8x8192x1 ![0, 1, 2, 3] bcast_S1x1x8192x1_S1x8x8192x1_0_1_2_3 (broadcastInDim S1x1x8192x1 ![2] bcast_S8192_S1x1x8192x1_2 kp)) (broadcastInDim S1x8x8192x1 ![0, 1, 2] bcast_S1x8x8192_S1x8x8192x1_0_1_2 z) (broadcastInDim S1x8x8192x1 ![] bcast_S_S1x8x8192x1 (id (constant S_ .f32 0x3F800000#32)))))) (broadcastInDim S1x8x8192x8192 ![] bcast_S_S1x8x8192x8192 (id (constant S_ .f32 0x00000000#32)))
/-- The weighted values. -/
def mixed (w : FVec Ideal S1x8x8192x8192 .f32) (v : FVec Ideal S1x8192x8x128 .f32) : FVec Ideal S1x8192x8x128 .f32 :=
  transpose S1x8192x8x128 [0, 3, 1, 2] (Host.dotGeneral dot_S1x8192x8x128_S1x8x8192x8192_S1x8x128x8192_1_3_3_2_02_01 none v w) transposes_S1x8x128x8192_S1x8192x8x128_0_3_1_2
/-- Their product with the output weights. -/
def projected (y : FVec Ideal S1x8192x8x128 .f32) (wo : FVec Ideal S1024x1024 .f32) : FVec Ideal S1x8192x1024 .f32 :=
  Host.dotGeneral dot_S1x8192x1024_S1024x1024_S1x8192x1024_2_0_01_1_n_n none (shapeCast S1x8192x1024 y shapeCasts_S1x8192x8x128_S1x8192x1024) wo

/-- All of it. -/
def whole (x : FVec Ideal S1x8192x1024 .f32) (wq : FVec Ideal S1024x1024 .f32) (k v : FVec Ideal S1x8192x8x128 .f32) (wo : FVec Ideal S1024x1024 .f32) : FVec Ideal S1x8192x1024 .f32 :=
  projected (mixed (weights (anySeen seen) (exps (scores seen x wq k)) (sums (exps (scores seen x wq k)))) v) wo

/-- The reference’s result is the chain of stages above. -/
theorem res_eq (m : (ℓ : Loc nD τ sig) → Buf (Elt Ideal) ℓ) (c : Dev nD) :
    Cert.ReferenceIdeal.Value.res_main_v34 m c = whole (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  rfl

/-! ## The mask -/

/-- The absolute value of a small word. -/
theorem absi_toInt (x : BitVec 32) (d : ℤ) (hd : x.toInt = d) (h1 : -8192 < d) (h2 : d < 8192) : (IntOp.absi x).toInt = |d| := by
  have e : ((2 ^ 32 : ℕ) : ℤ) = 4294967296 := by norm_num
  unfold IntOp.absi
  by_cases hm : x.msb = true
  · have hn : x.toInt < 0 := by rw [BitVec.msb_eq_toInt] at hm; exact of_decide_eq_true hm
    rw [if_pos hm, BitVec.toInt_neg, hd, Int.bmod_def, e, abs_of_neg (by omega)]
    split <;> omega
  · have hn : ¬ x.toInt < 0 := fun h => hm (by rw [BitVec.msb_eq_toInt]; exact decide_eq_true h)
    rw [if_neg hm, hd, abs_of_nonneg (by omega)]

/-- The mask is the distance test. -/
theorem seen_iff (t u : Fin 8192) : seen (ix2 t u) = 1#1 ↔ near t u := by
  have e : ((2 ^ 32 : ℕ) : ℤ) = 4294967296 := by norm_num
  have ht := t.isLt
  have hu := u.isLt
  have h : seen (ix2 t u) = IntOp.cmpi .sle (IntOp.absi (IntOp.subi (BitVec.ofNat 32 t.val) (BitVec.ofNat 32 u.val))) 128#32 := by
    pointwise [seen]
  have e1 : (BitVec.ofNat 32 t.val).toInt = t.val := WordCmp.toInt_ofNat_of_lt (by norm_num; omega)
  have e2 : (BitVec.ofNat 32 u.val).toInt = u.val := WordCmp.toInt_ofNat_of_lt (by norm_num; omega)
  have e3 : (IntOp.subi (BitVec.ofNat 32 t.val) (BitVec.ofNat 32 u.val)).toInt = (t.val : ℤ) - u.val := by
    unfold IntOp.subi
    rw [BitVec.toInt_sub, e1, e2, Int.bmod_def, e]
    split <;> omega
  have e4 := absi_toInt _ _ e3 (by omega) (by omega)
  have z : (128#32).toInt = 128 := rfl
  rw [h]
  simp only [IntOp.cmpi, bit_one, BitVec.sle_iff_toInt_le]
  rw [e4, z, abs_le]
  show _ ↔ t.val ≤ u.val + 128 ∧ u.val ≤ t.val + 128
  omega

/-- A row that sees a key sees something. -/
theorem anySeen_at (M : IVec S8192x8192 1) (t u : Fin 8192) (hM : M (ix2 t u) = 1#1) : anySeen M (ix1 t) = 1#1 := by
  have h : anySeen M (ix1 t) = Finset.fold IntOp.ori (0#1) (fun x : Fin 8192 => M (ix2 t x)) Finset.univ := by pointwise [anySeen]
  rw [h, ← Finset.insert_erase (Finset.mem_univ u), Finset.fold_insert (Finset.notMem_erase u _), hM]
  generalize Finset.fold IntOp.ori (0#1) (fun x : Fin 8192 => M (ix2 t x)) (Finset.univ.erase u) = b
  revert b
  decide

/-- Every row sees its own key. -/
theorem near_self (t : Fin 8192) : near t t := by
  obtain ⟨t, ht⟩ := t
  show t ≤ t + 128 ∧ t ≤ t + 128
  omega

/-! ## The stages at an index -/

/-- The fill is −∞. -/
theorem ofBits_bot : Ideal.ofBits .f32 0xFF800000#32 = ⊥ := by
  simp [Ideal.ofBits, Ideal.ieee]

/-- The masked scores, entry by entry; -/
theorem scores_at (M : IVec S8192x8192 1) (x : FVec Ideal S1x8192x1024 .f32) (wq : FVec Ideal S1024x1024 .f32) (k : FVec Ideal S1x8192x8x128 .f32) (h : Fin 8) (t u : Fin 8192) :
    (scores M x wq k (ix4 0 h t u) : EReal) = if M (ix2 t u) = 1#1 then
      scoreS (fun t a => x (ix3 0 t a)) (fun a b => wq (ix2 a b)) (fun t h e => k (ix4 0 t h e)) t h u else ⊥ := by
  pointwise [scores]
  rw [← ofBits_bot]
  refine if_congr Iff.rfl (congrArg (· * _) (Finset.sum_congr rfl fun e _ => congrArg (· * _) (Finset.sum_congr rfl fun a _ => congrArg (_ * wq ·) ?_))) rfl
  exact congrArg (ix2 a) (Fin.ext (congrArg (· + e.val) (Nat.mul_comm _ _)))

/-- their exponentials, less the row’s maximum; -/
theorem exps_at (s : FVec Ideal S1x8x8192x8192 .f32) (h : Fin 8) (t u : Fin 8192) :
    (exps s (ix4 0 h t u) : EReal) = Ideal.exp (s (ix4 0 h t u) - Finset.fold max ⊥ (fun u : Fin 8192 => (s (ix4 0 h t u) : EReal)) Finset.univ) := by
  pointwise [exps]
  rw [ofBits_bot]

/-- the sum of those; -/
theorem sums_at (e : FVec Ideal S1x8x8192x8192 .f32) (h : Fin 8) (t : Fin 8192) : (sums e (ix3 0 h t) : EReal) = ∑ u : Fin 8192, (e (ix4 0 h t u) : EReal) := by
  pointwise [sums]

/-- the weights; -/
theorem weights_at (kp : IVec S8192 1) (e : FVec Ideal S1x8x8192x8192 .f32) (z : FVec Ideal S1x8x8192 .f32) (h : Fin 8) (t u : Fin 8192) (hk : kp (ix1 t) = 1#1) :
    (weights kp e z (ix4 0 h t u) : EReal) = Ideal.div (e (ix4 0 h t u)) (z (ix3 0 h t)) := by
  pointwise [weights]
  refine (if_pos hk).trans (congrArg _ (if_pos hk))

/-- the weighted values; -/
theorem mixed_at (w : FVec Ideal S1x8x8192x8192 .f32) (v : FVec Ideal S1x8192x8x128 .f32) (t : Fin 8192) (h : Fin 8) (d : Fin 128) :
    (mixed w v (ix4 0 t h d) : EReal) = ∑ u : Fin 8192, (v (ix4 0 u h d) : EReal) * w (ix4 0 h t u) := by
  pointwise [mixed]

/-- the projection. -/
theorem projected_at (y : FVec Ideal S1x8192x8x128 .f32) (wo : FVec Ideal S1024x1024 .f32) (t : Fin 8192) (n : Fin 1024) :
    (projected y wo (ix3 0 t n) : EReal) = ∑ a : Fin 1024, (y (ix4 0 t (hd a) (ln a)) : EReal) * wo (ix2 a n) := by
  pointwise [projected]

/-! ## The whole result -/

section Whole
variable (x : FVec Ideal S1x8192x1024 .f32) (wq : FVec Ideal S1024x1024 .f32) (k v : FVec Ideal S1x8192x8x128 .f32) (wo : FVec Ideal S1024x1024 .f32)

/-- The scale is real. -/
theorem scale_real : ∃ r : ℝ, Ideal.ofBits .f32 0x3DB504F3#32 = (r : EReal) := by
  simp [Ideal.ofBits, Ideal.ieee]
  exact ⟨_, rfl⟩

/-- A score of real operands is real. -/
theorem score_real {X : Fin 8192 → Fin 1024 → EReal} {Wq : Fin 1024 → Fin 1024 → EReal} {K : Fin 8192 → Fin 8 → Fin 128 → EReal}
    (hX : ∀ t a, ∃ r : ℝ, X t a = (r : EReal)) (hW : ∀ a b, ∃ r : ℝ, Wq a b = (r : EReal)) (hK : ∀ t h e, ∃ r : ℝ, K t h e = (r : EReal))
    (t : Fin 8192) (h : Fin 8) (u : Fin 8192) : ∃ r : ℝ, scoreS X Wq K t h u = (r : EReal) := by
  choose x hx using hX
  choose w hw using hW
  choose k hk using hK
  obtain ⟨s, hs⟩ := scale_real
  refine ⟨(∑ e : Fin 128, (∑ a : Fin 1024, x t a * w a (colOf h e)) * k u h e) * s, ?_⟩
  unfold scoreS qS
  rw [hs, EReal.coe_mul, ← Math.coe_sum]
  refine congrArg (· * _) (Finset.sum_congr rfl fun e _ => ?_)
  rw [EReal.coe_mul, ← Math.coe_sum, hk]
  refine congrArg (· * _) (Finset.sum_congr rfl fun a _ => ?_)
  rw [EReal.coe_mul, hx, hw]

/-- The reference is banded attention, when the scores are real. -/
theorem whole_at (hs : ∀ t h u, ∃ r : ℝ, scoreS (fun t a => x (ix3 0 t a)) (fun a b => wq (ix2 a b)) (fun t h e => k (ix4 0 t h e)) t h u = (r : EReal)) (t : Fin 8192) (n : Fin 1024) :
    (whole x wq k v wo (ix3 0 t n) : EReal)
      = outS (fun t a => x (ix3 0 t a)) (fun a b => wq (ix2 a b)) (fun t h e => k (ix4 0 t h e)) (fun t h e => v (ix4 0 t h e)) (fun a b => wo (ix2 a b)) t n := by
  unfold whole outS
  rw [projected_at]
  refine Finset.sum_congr rfl fun a _ => congrArg (· * wo (ix2 a n)) ?_
  have hn := near_self t
  have hk := anySeen_at seen t t ((seen_iff t t).mpr hn)
  rw [mixed_at]
  choose r hr using hs t (hd a)
  have hsc : ∀ u, (scores seen x wq k (ix4 0 (hd a) t u) : EReal)
      = if near t u then scoreS (fun t a => x (ix3 0 t a)) (fun a b => wq (ix2 a b)) (fun t h e => k (ix4 0 t h e)) t (hd a) u else ⊥ := fun u =>
    (scores_at seen x wq k (hd a) t u).trans (if_congr (seen_iff t u) rfl rfl)
  have hw : ∀ u, (weights (anySeen seen) (exps (scores seen x wq k)) (sums (exps (scores seen x wq k))) (ix4 0 (hd a) t u) : EReal)
      = Ideal.div (exps (scores seen x wq k) (ix4 0 (hd a) t u)) (∑ u, (exps (scores seen x wq k) (ix4 0 (hd a) t u) : EReal)) := fun u => by
    rw [weights_at _ _ _ _ _ _ hk, sums_at]
  simp only [hw, exps_at, hsc]
  exact Math.softmax_band (near t) t hn _ r hr _

end Whole

end Cert.Whole
-- ==== Proof.Agree.lean ====
module

public import proofs.«01_k».proof.Defs
public import proofs.«01_k».proof.Proof.Gen.Pre_finite_KernelIdeal
public import proofs.«01_k».proof.Proof.Run
public import proofs.«01_k».proof.Proof.Kern
public import proofs.«01_k».proof.Proof.Ref
public import Idealize.ShloMosaic.Lib.ReduceAll

@[expose] public section

noncomputable section

namespace Cert.Agree

open Cert.Halo
open Idealize.ShloMosaic
open Idealize.ShloMosaic.TcCoe
open Idealize.SL.Sem

/-! # The kernel's result is the reference's

The precondition makes x, Wq and K real, so the scores are real and both sides are the same banded attention. -/

/-- A value whose magnitude tests below infinity is a real. -/
theorem real_of_below (a : EReal) (h : FloatOps.cmpf (F := Ideal) (φ := .f32) .olt (FloatOps.hostAbsf a) (Ideal.ofBits .f32 0x7F800000#32) = 1#1) : ∃ r : ℝ, a = (r : EReal) := by
  have e : Ideal.ofBits .f32 0x7F800000#32 = ⊤ := by simp [Ideal.ofBits, Ideal.ieee]
  rw [e] at h
  have hlt : max a (-a) < ⊤ := of_decide_eq_true ((bit_one _).mp h)
  refine ⟨a.toReal, (EReal.coe_toReal (fun ht => ?_) fun hb => ?_).symm⟩
  · subst ht
    simp at hlt
  · subst hb
    simp at hlt

/-- What the precondition says of a device's arrays. -/
theorem real_of_pre (x : FVec Ideal ⟨3, ![1, 1024, 1024]⟩ .f32) (wq : FVec Ideal ⟨2, ![1024, 1024]⟩ .f32) (k v : FVec Ideal ⟨4, ![1, 1024, 8, 128]⟩ .f32) (wo : FVec Ideal ⟨2, ![1024, 1024]⟩ .f32)
    (h : @Cert.Pre_finite_KernelIdeal.fn Cert.Pre_finite_KernelIdeal.Gen.facts Ideal _ x wq k v wo = fun _ => 1#1) :
    (∀ i, ∃ r : ℝ, (x i : EReal) = (r : EReal)) ∧ (∀ i, ∃ r : ℝ, (wq i : EReal) = (r : EReal)) ∧ ∀ i, ∃ r : ℝ, (k i : EReal) = (r : EReal) := by
  have h0 := congrFun h ix0
  obtain ⟨h1, hk⟩ := (andi_one _ _).mp h0
  obtain ⟨hx, hw⟩ := (andi_one _ _).mp h1
  haveI : Subsingleton (Cert.Pre_finite_KernelIdeal.S_).Idx := ⟨fun a b => funext fun d => d.elim0⟩
  refine ⟨fun i => ?_, fun i => ?_, fun i => ?_⟩
  · exact real_of_below _ (Host.reduce_andi_all _ _ _ _ _ hx i)
  · exact real_of_below _ (Host.reduce_andi_all _ _ _ _ _ hw i)
  · exact real_of_below _ (Host.reduce_andi_all _ _ _ _ _ hk i)

/-- A row of a device's block of a three-axis array, and of a four-axis one. -/
theorem block3 {α : Type} (c : Fin 8) (f : (⟨3, ![1, 8192, 1024]⟩ : Shape).Idx → α) (r n : Fin 1024) :
    Layout.block ⟨3, ![1, 1024, 1024]⟩ ⟨3, ![1, 8192, 1024]⟩ 1 8 c f (by decide) (ix3 0 r n) = f (ix3 0 ⟨1024 * c.val + r.val, by omega⟩ n) := by
  rw [Layout.block_apply]
  refine congrArg f (funext fun a => Fin.ext ?_)
  rw [Layout.Tiles.idx_val]
  match a with
  | ⟨0, _⟩ => rfl
  | ⟨1, _⟩ => show c.val * 1024 + r.val = 1024 * c.val + r.val; omega
  | ⟨2, _⟩ => rfl

/-- Device `c`’s block of the fourth-rank array, at row `r`, is the row `1024 c + r` of the whole. -/
theorem block4 {α : Type} (c : Fin 8) (f : (⟨4, ![1, 8192, 8, 128]⟩ : Shape).Idx → α) (r : Fin 1024) (h : Fin 8) (e : Fin 128) :
    Layout.block ⟨4, ![1, 1024, 8, 128]⟩ ⟨4, ![1, 8192, 8, 128]⟩ 1 8 c f (by decide) (ix4 0 r h e) = f (ix4 0 ⟨1024 * c.val + r.val, by omega⟩ h e) := by
  rw [Layout.block_apply]
  refine congrArg f (funext fun a => Fin.ext ?_)
  rw [Layout.Tiles.idx_val]
  match a with
  | ⟨0, _⟩ => rfl
  | ⟨1, _⟩ => show c.val * 1024 + r.val = 1024 * c.val + r.val; omega
  | ⟨2, _⟩ => rfl
  | ⟨3, _⟩ => rfl

/-- A row among the 8192 is a row of a device. -/
theorem row_of_device (t : Fin 8192) : ∃ (c : Fin 8) (r : Fin 1024), t = ⟨1024 * c.val + r.val, by omega⟩ :=
  ⟨⟨t.val / 1024, by omega⟩, ⟨t.val % 1024, by omega⟩, Fin.ext (by simp only; omega)⟩

set_option maxRecDepth 8000 in
/-- On finite x, Wq and K_ext the kernel computes what the reference computes. -/
theorem agree : @Cert.algebraic_KernelIdeal_ReferenceIdeal_pre_finite_KernelIdeal Cert.KernelIdeal.Gen.facts Cert.ReferenceIdeal.Gen.facts Cert.Pre_finite_KernelIdeal.Gen.facts := by
  intro m g m' g' hpre hin
  set x' : FVec Ideal ⟨3, ![1, 8192, 1024]⟩ .f32 := m' (((0 : Dev Cert.ReferenceIdeal.nD).tc : Thread Cert.ReferenceIdeal.nD Cert.ReferenceIdeal.τ).loc Cert.ReferenceIdeal.main_arg0) with hx'
  set q' : FVec Ideal ⟨2, ![1024, 1024]⟩ .f32 := m' (((0 : Dev Cert.ReferenceIdeal.nD).tc : Thread Cert.ReferenceIdeal.nD Cert.ReferenceIdeal.τ).loc Cert.ReferenceIdeal.main_arg1) with hq'
  set k' : FVec Ideal ⟨4, ![1, 8192, 8, 128]⟩ .f32 := m' (((0 : Dev Cert.ReferenceIdeal.nD).tc : Thread Cert.ReferenceIdeal.nD Cert.ReferenceIdeal.τ).loc Cert.ReferenceIdeal.main_arg2) with hk'
  set v' : FVec Ideal ⟨4, ![1, 8192, 8, 128]⟩ .f32 := m' (((0 : Dev Cert.ReferenceIdeal.nD).tc : Thread Cert.ReferenceIdeal.nD Cert.ReferenceIdeal.τ).loc Cert.ReferenceIdeal.main_arg3) with hv'
  set o' : FVec Ideal ⟨2, ![1024, 1024]⟩ .f32 := m' (((0 : Dev Cert.ReferenceIdeal.nD).tc : Thread Cert.ReferenceIdeal.nD Cert.ReferenceIdeal.τ).loc Cert.ReferenceIdeal.main_arg4) with ho'
  have hreal := fun c => real_of_pre _ _ _ _ _ (hpre c)
  have hX : ∀ (c : Dev Cert.KernelIdeal.nD) (r a : Fin 1024), (m ((c.tc : Thread Cert.KernelIdeal.nD Cert.KernelIdeal.τ).loc Cert.KernelIdeal.main_arg0) : FVec Ideal ⟨3, ![1, 1024, 1024]⟩ .f32) (ix3 0 r a)
      = x' (ix3 0 (rowOf c r.val r.isLt) a) := fun c r a => by
    rw [(hin c).1]
    exact block3 c x' r a
  have hK : ∀ (c : Dev Cert.KernelIdeal.nD) (r : Fin 1024) (h : Fin 8) (e : Fin 128), (m ((c.tc : Thread Cert.KernelIdeal.nD Cert.KernelIdeal.τ).loc Cert.KernelIdeal.main_arg2) : FVec Ideal ⟨4, ![1, 1024, 8, 128]⟩ .f32) (ix4 0 r h e)
      = k' (ix4 0 (rowOf c r.val r.isLt) h e) := fun c r h e => by
    rw [(hin c).2.2.1]
    exact block4 c k' r h e
  have hV : ∀ (c : Dev Cert.KernelIdeal.nD) (r : Fin 1024) (h : Fin 8) (e : Fin 128), (m ((c.tc : Thread Cert.KernelIdeal.nD Cert.KernelIdeal.τ).loc Cert.KernelIdeal.main_arg3) : FVec Ideal ⟨4, ![1, 1024, 8, 128]⟩ .f32) (ix4 0 r h e)
      = v' (ix4 0 (rowOf c r.val r.isLt) h e) := fun c r h e => by
    rw [(hin c).2.2.2.1]
    exact block4 c v' r h e
  have hs : ∀ t h u, ∃ r : ℝ, scoreS (fun t a => x' (ix3 0 t a)) (fun a b => q' (ix2 a b)) (fun t h e => k' (ix4 0 t h e)) t h u = (r : EReal) := by
    refine Cert.Whole.score_real (fun t a => ?_) (fun a b => ?_) (fun t h e => ?_)
    · obtain ⟨c, r, rfl⟩ := row_of_device t
      exact hX c r a ▸ (hreal c).1 _
    · exact (hin 0).2.1 ▸ (hreal 0).2.1 _
    · obtain ⟨c, r, rfl⟩ := row_of_device t
      exact hK c r h e ▸ (hreal c).2.2 _
  refine ⟨Cert.Whole.whole x' q' k' v' o', ?_, ?_⟩
  · refine (θ_run Cert.KernelIdeal.defs _ _).mono (fun r hr c => ⟨?_, (hr.1 c).1⟩) (run_main (F := Ideal) m g)
    refine funext fun i => ?_
    obtain ⟨a, b, n, rfl⟩ : ∃ (a : Fin 1) (b n : Fin 1024), i = ix3 a b n := ⟨i 0, i 1, i 2, funext fun d => match d with | ⟨0, _⟩ => rfl | ⟨1, _⟩ => rfl | ⟨2, _⟩ => rfl⟩
    obtain rfl : a = 0 := Subsingleton.elim _ _
    refine (out_spec m (X := fun t a => x' (ix3 0 t a)) (Wq := fun a b => q' (ix2 a b)) (K := fun t h e => k' (ix4 0 t h e)) (V := fun t h e => v' (ix4 0 t h e))
      (Wo := fun a b => o' (ix2 a b)) hX (fun c a b => congrFun (hin c).2.1 _) hK hV (fun c a b => congrFun (hin c).2.2.2.2 _) c _ (hr.1 c).2 b n).trans ?_
    refine Eq.trans ?_ (block3 c (Cert.Whole.whole x' q' k' v' o') b n).symm
    exact (Cert.Whole.whole_at x' q' k' v' o' hs _ n).symm
  · exact (θ_run Cert.ReferenceIdeal.defs _ _).mono (fun r hr => ⟨(hr 0).1.trans (Cert.Whole.res_eq m' 0), (hr 0).2⟩) (Cert.ReferenceIdeal.Value.run (F := Ideal) m' g')

end Cert.Agree
-- ==== Proof.lean ====
/-
The claims about the windowed attention kernel: each program runs, leaves its arguments as they were and every
counter at zero; the ideal pass rewrote nothing; and over the reals the eight devices' results are the blocks of
the reference's result, whenever x, Wq and K are finite.
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.ReferenceIdeal
public import proofs.«01_k».proof.Proof.Gen.ReferenceIdeal.Run
public import proofs.«01_k».proof.Proof.Gen.Pre_finite_KernelIdeal
public import proofs.«01_k».proof.Proof.Gen.Pre_finite_ReferenceIdeal
public import proofs.«01_k».proof.Proof.Run
public import proofs.«01_k».proof.Proof.Agree
public import Idealize.ShloMosaic.Adequacy
public import Idealize.ShloMosaic.Init

@[expose] public section

noncomputable section

namespace Cert.Proof

open Idealize.ShloMosaic Idealize.SL.Sem

/-- The kernel, bit for bit. -/
theorem frame_kernel : Cert.quiescent_Kernel := fun m ρ _ =>
  (θ_run Cert.KernelIdeal.defs _ _).mono (fun _ h => ⟨fun c => (h.1 c).1, h.2⟩) (Cert.Halo.run_main (F := Bits) m ρ)

/-- The kernel over the reals. -/
theorem frame_ideal : Cert.quiescent_KernelIdeal := fun m ρ _ =>
  (θ_run Cert.KernelIdeal.defs _ _).mono (fun _ h => ⟨fun c => (h.1 c).1, h.2⟩) (Cert.Halo.run_main (F := Ideal) m ρ)

/-- The reference over the reals. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- All five claims; a frame under the precondition is the frame without it. -/
theorem claim : Cert.Claim := ⟨Cert.Kernel.Gen.facts, Cert.KernelIdeal.Gen.facts, Cert.ReferenceIdeal.Gen.facts, Cert.Pre_finite_KernelIdeal.Gen.facts,
  Cert.Pre_finite_ReferenceIdeal.Gen.facts, frame_kernel, frame_ideal, fun m g _ => frame_ideal m g trivial, frame_reference, fun m g _ => frame_reference m g trivial,
  trivial, Cert.Agree.agree⟩

end Cert.Proof

end
